-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_v231) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x5x64x2048 : Shape := ⟨4, ![2, 5, 64, 2048]⟩
abbrev S5x32x3x3 : Shape := ⟨4, ![5, 32, 3, 3]⟩
abbrev S2x1x64x2048 : Shape := ⟨4, ![2, 1, 64, 2048]⟩
abbrev S2x64x2048 : Shape := ⟨3, ![2, 64, 2048]⟩
abbrev S_ : Shape := ⟨0, ![]⟩

class Facts : Prop where
  slices_S2x5x64x2048_S2x1x64x2048_0_0_0_0 : S2x5x64x2048.Slices ![0, 0, 0, 0] S2x1x64x2048
  shapeCasts_S2x1x64x2048_S2x64x2048 : S2x1x64x2048.ShapeCasts S2x64x2048
  bcast_S_S2x64x2048 : S_.BroadcastsInDim S2x64x2048 (![] : Fin 0 → Fin S2x64x2048.rank)

variable [Facts]

def fn {F : FTy → Type} [FloatOps F] (main_arg0 : FVec F S2x5x64x2048 .f32) (main_arg1 : FVec F S2x5x64x2048 .f32) (main_arg2 : FVec F S5x32x3x3 .f32) (main_arg3 : FVec F S5x32x3x3 .f32) : IVec S2x64x2048 1 :=
  let main_v0 : FVec F S2x1x64x2048 .f32 := (extractStridedSlice S2x1x64x2048 ![0, 0, 0, 0] · slices_S2x5x64x2048_S2x1x64x2048_0_0_0_0) main_arg0
  let main_v1 : FVec F S2x64x2048 .f32 := shapeCast S2x64x2048 main_v0 shapeCasts_S2x1x64x2048_S2x64x2048
  let main_v2 : FVec F S2x64x2048 .f32 := Host.absf main_v1
  let main_cst : FVec F S_ .f32 := constant S_ .f32 0x7F800000#32
  let main_v3 : FVec F S2x64x2048 .f32 := broadcastInDim S2x64x2048 ![] bcast_S_S2x64x2048 main_cst
  let main_v4 : IVec S2x64x2048 1 := cmpf .olt main_v2 main_v3
  let main_v5 : FVec F S2x1x64x2048 .f32 := (extractStridedSlice S2x1x64x2048 ![0, 0, 0, 0] · slices_S2x5x64x2048_S2x1x64x2048_0_0_0_0) main_arg1
  let main_v6 : FVec F S2x64x2048 .f32 := shapeCast S2x64x2048 main_v5 shapeCasts_S2x1x64x2048_S2x64x2048
  let main_v7 : FVec F S2x64x2048 .f32 := Host.absf main_v6
  let main_cst_0 : FVec F S_ .f32 := constant S_ .f32 0x7F800000#32
  let main_v8 : FVec F S2x64x2048 .f32 := broadcastInDim S2x64x2048 ![] bcast_S_S2x64x2048 main_cst_0
  let main_v9 : IVec S2x64x2048 1 := cmpf .olt main_v7 main_v8
  let main_v10 : IVec S2x64x2048 1 := andi main_v4 main_v9
  main_v10
-- ==== Kernel.lean ====
abbrev S2x5x64x2048 : Shape := ⟨4, ![2, 5, 64, 2048]⟩
abbrev S5x32x3x3 : Shape := ⟨4, ![5, 32, 3, 3]⟩
abbrev S_ : Shape := ⟨0, ![]⟩
abbrev S2x5x80x2182 : Shape := ⟨4, ![2, 5, 80, 2182]⟩
abbrev S2x5x80x2176 : Shape := ⟨4, ![2, 5, 80, 2176]⟩
abbrev S1x2x5x80x2176 : Shape := ⟨5, ![1, 2, 5, 80, 2176]⟩
abbrev S5x2x5x80x2176 : Shape := ⟨5, ![5, 2, 5, 80, 2176]⟩
abbrev S7x2x5x80x2176 : Shape := ⟨5, ![7, 2, 5, 80, 2176]⟩
abbrev S32x45 : Shape := ⟨2, ![32, 45]⟩
abbrev S32x48 : Shape := ⟨2, ![32, 48]⟩
abbrev S2x32x64x2048 : Shape := ⟨4, ![2, 32, 64, 2048]⟩
abbrev S1x1x5x8x128 : Shape := ⟨5, ![1, 1, 5, 8, 128]⟩
abbrev S1x32x8x128 : Shape := ⟨4, ![1, 32, 8, 128]⟩
abbrev S48x8x128 : Shape := ⟨3, ![48, 8, 128]⟩
abbrev S25x8x128 : Shape := ⟨3, ![25, 8, 128]⟩
abbrev S49x8x128 : Shape := ⟨3, ![49, 8, 128]⟩
abbrev S9x8x128 : Shape := ⟨3, ![9, 8, 128]⟩
abbrev S8x128 : Shape := ⟨2, ![8, 128]⟩
abbrev S1x1x1x8x128 : Shape := ⟨5, ![1, 1, 1, 8, 128]⟩
abbrev S16x128 : Shape := ⟨2, ![16, 128]⟩
abbrev S1x8x128 : Shape := ⟨3, ![1, 8, 128]⟩
abbrev S48x1024 : Shape := ⟨2, ![48, 1024]⟩
abbrev S32x1024 : Shape := ⟨2, ![32, 1024]⟩
abbrev S32x8x128 : Shape := ⟨3, ![32, 8, 128]⟩

abbrev nBuf : Space → Nat
  | .hbm => 46
  | .vmem => 60
  | .smem => 0
  | _ => 0

abbrev bufTy : (tb : Table) → Fin (tcTables nBuf tb) → BufTy
  | .hbm, ⟨0, _⟩ => ⟨S2x5x64x2048, .f32⟩
  | .hbm, ⟨1, _⟩ => ⟨S2x5x64x2048, .f32⟩
  | .hbm, ⟨2, _⟩ => ⟨S5x32x3x3, .f32⟩
  | .hbm, ⟨3, _⟩ => ⟨S5x32x3x3, .f32⟩
  | .hbm, ⟨4, _⟩ => ⟨S_, .i32⟩
  | .hbm, ⟨5, _⟩ => ⟨S_, .f32⟩
  | .hbm, ⟨6, _⟩ => ⟨S2x5x80x2182, .f32⟩
  | .hbm, ⟨7, _⟩ => ⟨S_, .i32⟩
  | .hbm, ⟨8, _⟩ => ⟨S_, .f32⟩
  | .hbm, ⟨9, _⟩ => ⟨S2x5x80x2182, .f32⟩
  | .hbm, ⟨10, _⟩ => ⟨S2x5x80x2176, .f32⟩
  | .hbm, ⟨11, _⟩ => ⟨S2x5x80x2176, .f32⟩
  | .hbm, ⟨12, _⟩ => ⟨S2x5x80x2176, .f32⟩
  | .hbm, ⟨13, _⟩ => ⟨S2x5x80x2176, .f32⟩
  | .hbm, ⟨14, _⟩ => ⟨S2x5x80x2176, .f32⟩
  | .hbm, ⟨15, _⟩ => ⟨S1x2x5x80x2176, .f32⟩
  | .hbm, ⟨16, _⟩ => ⟨S1x2x5x80x2176, .f32⟩
  | .hbm, ⟨17, _⟩ => ⟨S1x2x5x80x2176, .f32⟩
  | .hbm, ⟨18, _⟩ => ⟨S1x2x5x80x2176, .f32⟩
  | .hbm, ⟨19, _⟩ => ⟨S1x2x5x80x2176, .f32⟩
  | .hbm, ⟨20, _⟩ => ⟨S5x2x5x80x2176, .f32⟩
  | .hbm, ⟨21, _⟩ => ⟨S2x5x80x2176, .f32⟩
  | .hbm, ⟨22, _⟩ => ⟨S2x5x80x2176, .f32⟩
  | .hbm, ⟨23, _⟩ => ⟨S2x5x80x2176, .f32⟩
  | .hbm, ⟨24, _⟩ => ⟨S2x5x80x2176, .f32⟩
  | .hbm, ⟨25, _⟩ => ⟨S2x5x80x2176, .f32⟩
  | .hbm, ⟨26, _⟩ => ⟨S2x5x80x2176, .f32⟩
  | .hbm, ⟨27, _⟩ => ⟨S2x5x80x2176, .f32⟩
  | .hbm, ⟨28, _⟩ => ⟨S1x2x5x80x2176, .f32⟩
  | .hbm, ⟨29, _⟩ => ⟨S1x2x5x80x2176, .f32⟩
  | .hbm, ⟨30, _⟩ => ⟨S1x2x5x80x2176, .f32⟩
  | .hbm, ⟨31, _⟩ => ⟨S1x2x5x80x2176, .f32⟩
  | .hbm, ⟨32, _⟩ => ⟨S1x2x5x80x2176, .f32⟩
  | .hbm, ⟨33, _⟩ => ⟨S1x2x5x80x2176, .f32⟩
  | .hbm, ⟨34, _⟩ => ⟨S1x2x5x80x2176, .f32⟩
  | .hbm, ⟨35, _⟩ => ⟨S7x2x5x80x2176, .f32⟩
  | .hbm, ⟨36, _⟩ => ⟨S32x45, .f32⟩
  | .hbm, ⟨37, _⟩ => ⟨S_, .i32⟩
  | .hbm, ⟨38, _⟩ => ⟨S_, .f32⟩
  | .hbm, ⟨39, _⟩ => ⟨S32x48, .f32⟩
  | .hbm, ⟨40, _⟩ => ⟨S32x45, .f32⟩
  | .hbm, ⟨41, _⟩ => ⟨S_, .i32⟩
  | .hbm, ⟨42, _⟩ => ⟨S_, .f32⟩
  | .hbm, ⟨43, _⟩ => ⟨S32x48, .f32⟩
  | .hbm, ⟨44, _⟩ => ⟨S2x32x64x2048, .f32⟩
  | .hbm, ⟨45, _⟩ => ⟨S2x32x64x2048, .f32⟩
  | .local _ .vmem, ⟨0, _⟩ => ⟨S1x1x5x8x128, .f32⟩
  | .local _ .vmem, ⟨1, _⟩ => ⟨S1x1x5x8x128, .f32⟩
  | .local _ .vmem, ⟨2, _⟩ => ⟨S1x1x5x8x128, .f32⟩
  | .local _ .vmem, ⟨3, _⟩ => ⟨S1x1x5x8x128, .f32⟩
  | .local _ .vmem, ⟨4, _⟩ => ⟨S1x1x5x8x128, .f32⟩
  | .local _ .vmem, ⟨5, _⟩ => ⟨S1x1x5x8x128, .f32⟩
  | .local _ .vmem, ⟨6, _⟩ => ⟨S1x1x5x8x128, .f32⟩
  | .local _ .vmem, ⟨7, _⟩ => ⟨S1x1x5x8x128, .f32⟩
  | .local _ .vmem, ⟨8, _⟩ => ⟨S1x1x5x8x128, .f32⟩
  | .local _ .vmem, ⟨9, _⟩ => ⟨S1x1x5x8x128, .f32⟩
  | .local _ .vmem, ⟨10, _⟩ => ⟨S1x1x5x8x128, .f32⟩
  | .local _ .vmem, ⟨11, _⟩ => ⟨S1x1x5x8x128, .f32⟩
  | .local _ .vmem, ⟨12, _⟩ => ⟨S1x1x5x8x128, .f32⟩
  | .local _ .vmem, ⟨13, _⟩ => ⟨S1x1x5x8x128, .f32⟩
  | .local _ .vmem, ⟨14, _⟩ => ⟨S1x1x5x8x128, .f32⟩
  | .local _ .vmem, ⟨15, _⟩ => ⟨S1x1x5x8x128, .f32⟩
  | .local _ .vmem, ⟨16, _⟩ => ⟨S1x1x5x8x128, .f32⟩
  | .local _ .vmem, ⟨17, _⟩ => ⟨S1x1x5x8x128, .f32⟩
  | .local _ .vmem, ⟨18, _⟩ => ⟨S1x1x5x8x128, .f32⟩
  | .local _ .vmem, ⟨19, _⟩ => ⟨S1x1x5x8x128, .f32⟩
  | .local _ .vmem, ⟨20, _⟩ => ⟨S1x1x5x8x128, .f32⟩
  | .local _ .vmem, ⟨21, _⟩ => ⟨S1x1x5x8x128, .f32⟩
  | .local _ .vmem, ⟨22, _⟩ => ⟨S1x1x5x8x128, .f32⟩
  | .local _ .vmem, ⟨23, _⟩ => ⟨S1x1x5x8x128, .f32⟩
  | .local _ .vmem, ⟨24, _⟩ => ⟨S1x1x5x8x128, .f32⟩
  | .local _ .vmem, ⟨25, _⟩ => ⟨S1x1x5x8x128, .f32⟩
  | .local _ .vmem, ⟨26, _⟩ => ⟨S1x1x5x8x128, .f32⟩
  | .local _ .vmem, ⟨27, _⟩ => ⟨S1x1x5x8x128, .f32⟩
  | .local _ .vmem, ⟨28, _⟩ => ⟨S1x1x5x8x128, .f32⟩
  | .local _ .vmem, ⟨29, _⟩ => ⟨S1x1x5x8x128, .f32⟩
  | .local _ .vmem, ⟨30, _⟩ => ⟨S1x1x5x8x128, .f32⟩
  | .local _ .vmem, ⟨31, _⟩ => ⟨S1x1x5x8x128, .f32⟩
  | .local _ .vmem, ⟨32, _⟩ => ⟨S1x1x5x8x128, .f32⟩
  | .local _ .vmem, ⟨33, _⟩ => ⟨S1x1x5x8x128, .f32⟩
  | .local _ .vmem, ⟨34, _⟩ => ⟨S1x1x5x8x128, .f32⟩
  | .local _ .vmem, ⟨35, _⟩ => ⟨S1x1x5x8x128, .f32⟩
  | .local _ .vmem, ⟨36, _⟩ => ⟨S1x1x5x8x128, .f32⟩
  | .local _ .vmem, ⟨37, _⟩ => ⟨S1x1x5x8x128, .f32⟩
  | .local _ .vmem, ⟨38, _⟩ => ⟨S1x1x5x8x128, .f32⟩
  | .local _ .vmem, ⟨39, _⟩ => ⟨S1x1x5x8x128, .f32⟩
  | .local _ .vmem, ⟨40, _⟩ => ⟨S1x1x5x8x128, .f32⟩
  | .local _ .vmem, ⟨41, _⟩ => ⟨S1x1x5x8x128, .f32⟩
  | .local _ .vmem, ⟨42, _⟩ => ⟨S1x1x5x8x128, .f32⟩
  | .local _ .vmem, ⟨43, _⟩ => ⟨S1x1x5x8x128, .f32⟩
  | .local _ .vmem, ⟨44, _⟩ => ⟨S1x1x5x8x128, .f32⟩
  | .local _ .vmem, ⟨45, _⟩ => ⟨S1x1x5x8x128, .f32⟩
  | .local _ .vmem, ⟨46, _⟩ => ⟨S1x1x5x8x128, .f32⟩
  | .local _ .vmem, ⟨47, _⟩ => ⟨S1x1x5x8x128, .f32⟩
  | .local _ .vmem, ⟨48, _⟩ => ⟨S32x48, .f32⟩
  | .local _ .vmem, ⟨49, _⟩ => ⟨S32x48, .f32⟩
  | .local _ .vmem, ⟨50, _⟩ => ⟨S1x32x8x128, .f32⟩
  | .local _ .vmem, ⟨51, _⟩ => ⟨S1x32x8x128, .f32⟩
  | .local _ .vmem, ⟨52, _⟩ => ⟨S1x32x8x128, .f32⟩
  | .local _ .vmem, ⟨53, _⟩ => ⟨S1x32x8x128, .f32⟩
  | .local _ .vmem, ⟨54, _⟩ => ⟨S48x8x128, .f32⟩
  | .local _ .vmem, ⟨55, _⟩ => ⟨S48x8x128, .f32⟩
  | .local _ .vmem, ⟨56, _⟩ => ⟨S25x8x128, .f32⟩
  | .local _ .vmem, ⟨57, _⟩ => ⟨S49x8x128, .f32⟩
  | .local _ .vmem, ⟨58, _⟩ => ⟨S9x8x128, .f32⟩
  | .local _ .vmem, ⟨59, _⟩ => ⟨S9x8x128, .f32⟩
  | _, _ => ⟨S2x5x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_1 : Ref sig .tc := ⟨.hbm, 37, rfl⟩
abbrev main_call2_v0 : Ref sig .tc := ⟨.hbm, 38, rfl⟩
abbrev main_v29 : Ref sig .tc := ⟨.hbm, 39, rfl⟩
abbrev main_v30 : Ref sig .tc := ⟨.hbm, 40, rfl⟩
abbrev main_c_2 : Ref sig .tc := ⟨.hbm, 41, rfl⟩
abbrev main_call3_v0 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg25_0 : Ref sig .tc := ⟨.vmem, 49, rfl⟩
abbrev cc0_stg26_0 : Ref sig .tc := ⟨.vmem, 50, rfl⟩
abbrev cc0_stg26_1 : Ref sig .tc := ⟨.vmem, 51, rfl⟩
abbrev cc0_stg27_0 : Ref sig .tc := ⟨.vmem, 52, rfl⟩
abbrev cc0_stg27_1 : Ref sig .tc := ⟨.vmem, 53, rfl⟩
abbrev cc0_scratch0 : Ref sig .tc := ⟨.vmem, 54, rfl⟩
abbrev cc0_scratch1 : Ref sig .tc := ⟨.vmem, 55, rfl⟩
abbrev cc0_scratch2 : Ref sig .tc := ⟨.vmem, 56, rfl⟩
abbrev cc0_scratch3 : Ref sig .tc := ⟨.vmem, 57, rfl⟩
abbrev cc0_scratch4 : Ref sig .tc := ⟨.vmem, 58, rfl⟩
abbrev cc0_scratch5 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem25_0 : DmaSem sig := 49
abbrev cc0_sem26_0 : DmaSem sig := 50
abbrev cc0_sem26_1 : DmaSem sig := 51
abbrev cc0_sem27_0 : DmaSem sig := 52
abbrev cc0_sem27_1 : DmaSem sig := 53

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, arg0.toNat, c0_i32_1.toNat, v0.toNat, arg2.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![c0_i32.toNat, arg0.toNat, c0_i32_0.toNat, v0.toNat, arg2.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, arg0.toNat, c0_i32_0.toNat, v0.toNat, arg2.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c1_i32_0 : BitVec 32 := 1#32
  let c0_i32 : BitVec 32 := 0#32
  let c0_i32_1 : BitVec 32 := 0#32
  ![c1_i32_0.toNat, arg0.toNat, c0_i32.toNat, v0.toNat, arg2.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let c0_i32_0 : BitVec 32 := 0#32
  let c0_i32_1 : BitVec 32 := 0#32
  ![c2_i32.toNat, arg0.toNat, c0_i32_0.toNat, v0.toNat, arg2.toNat]

def cc0_transform_5 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let c0_i32 : BitVec 32 := 0#32
  let c0_i32_0 : BitVec 32 := 0#32
  ![c2_i32.toNat, arg0.toNat, c0_i32.toNat, v0.toNat, arg2.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c3_i32 : BitVec 32 := 3#32
  let c0_i32_0 : BitVec 32 := 0#32
  let c0_i32_1 : BitVec 32 := 0#32
  ![c3_i32.toNat, arg0.toNat, c0_i32_0.toNat, v0.toNat, arg2.toNat]

def cc0_transform_7 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c3_i32 : BitVec 32 := 3#32
  let c0_i32 : BitVec 32 := 0#32
  let c0_i32_0 : BitVec 32 := 0#32
  ![c3_i32.toNat, arg0.toNat, c0_i32.toNat, v0.toNat, arg2.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c4_i32 : BitVec 32 := 4#32
  let c0_i32_0 : BitVec 32 := 0#32
  let c0_i32_1 : BitVec 32 := 0#32
  ![c4_i32.toNat, arg0.toNat, c0_i32_0.toNat, v0.toNat, arg2.toNat]

def cc0_transform_9 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c4_i32 : BitVec 32 := 4#32
  let c0_i32 : BitVec 32 := 0#32
  let c0_i32_0 : BitVec 32 := 0#32
  ![c4_i32.toNat, arg0.toNat, c0_i32.toNat, v0.toNat, arg2.toNat]

def cc0_transform_10 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  let c0_i32_2 : BitVec 32 := 0#32
  ![c0_i32_0.toNat, arg0.toNat, c0_i32_1.toNat, v0.toNat, arg2.toNat]

def cc0_transform_11 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let c0_i32_0 : BitVec 32 := 0#32
  let c0_i32_1 : BitVec 32 := 0#32
  ![c0_i32.toNat, arg0.toNat, c0_i32_0.toNat, v0.toNat, arg2.toNat]

def cc0_transform_12 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c1_i32 : BitVec 32 := 1#32
  let c0_i32_0 : BitVec 32 := 0#32
  let c0_i32_1 : BitVec 32 := 0#32
  ![c1_i32.toNat, arg0.toNat, c0_i32_0.toNat, v0.toNat, arg2.toNat]

def cc0_transform_13 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c1_i32_0 : BitVec 32 := 1#32
  let c0_i32 : BitVec 32 := 0#32
  let c0_i32_1 : BitVec 32 := 0#32
  ![c1_i32_0.toNat, arg0.toNat, c0_i32.toNat, v0.toNat, arg2.toNat]

def cc0_transform_14 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c2_i32 : BitVec 32 := 2#32
  let c0_i32_0 : BitVec 32 := 0#32
  let c0_i32_1 : BitVec 32 := 0#32
  ![c2_i32.toNat, arg0.toNat, c0_i32_0.toNat, v0.toNat, arg2.toNat]

def cc0_transform_15 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let c0_i32 : BitVec 32 := 0#32
  let c0_i32_0 : BitVec 32 := 0#32
  ![c2_i32.toNat, arg0.toNat, c0_i32.toNat, v0.toNat, arg2.toNat]

def cc0_transform_16 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c3_i32 : BitVec 32 := 3#32
  let c0_i32_0 : BitVec 32 := 0#32
  let c0_i32_1 : BitVec 32 := 0#32
  ![c3_i32.toNat, arg0.toNat, c0_i32_0.toNat, v0.toNat, arg2.toNat]

def cc0_transform_17 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c3_i32 : BitVec 32 := 3#32
  let c0_i32 : BitVec 32 := 0#32
  let c0_i32_0 : BitVec 32 := 0#32
  ![c3_i32.toNat, arg0.toNat, c0_i32.toNat, v0.toNat, arg2.toNat]

def cc0_transform_18 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c4_i32 : BitVec 32 := 4#32
  let c0_i32_0 : BitVec 32 := 0#32
  let c0_i32_1 : BitVec 32 := 0#32
  ![c4_i32.toNat, arg0.toNat, c0_i32_0.toNat, v0.toNat, arg2.toNat]

def cc0_transform_19 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c4_i32 : BitVec 32 := 4#32
  let c0_i32 : BitVec 32 := 0#32
  let c0_i32_0 : BitVec 32 := 0#32
  ![c4_i32.toNat, arg0.toNat, c0_i32.toNat, v0.toNat, arg2.toNat]

def cc0_transform_20 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c5_i32 : BitVec 32 := 5#32
  let c0_i32_0 : BitVec 32 := 0#32
  let c0_i32_1 : BitVec 32 := 0#32
  ![c5_i32.toNat, arg0.toNat, c0_i32_0.toNat, v0.toNat, arg2.toNat]

def cc0_transform_21 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c5_i32 : BitVec 32 := 5#32
  let c0_i32 : BitVec 32 := 0#32
  let c0_i32_0 : BitVec 32 := 0#32
  ![c5_i32.toNat, arg0.toNat, c0_i32.toNat, v0.toNat, arg2.toNat]

def cc0_transform_22 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c6_i32 : BitVec 32 := 6#32
  let c0_i32_0 : BitVec 32 := 0#32
  let c0_i32_1 : BitVec 32 := 0#32
  ![c6_i32.toNat, arg0.toNat, c0_i32_0.toNat, v0.toNat, arg2.toNat]

def cc0_transform_23 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c6_i32 : BitVec 32 := 6#32
  let c0_i32 : BitVec 32 := 0#32
  let c0_i32_0 : BitVec 32 := 0#32
  ![c6_i32.toNat, arg0.toNat, c0_i32.toNat, v0.toNat, arg2.toNat]

def cc0_transform_24 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

def cc0_transform_27 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat, arg2.toNat]

abbrev stage0_0 : Fin 2 → Memref sig .tc .vmem S1x1x5x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x5x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x5x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x5x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x5x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x5x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x5x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x1x5x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x5x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x5x8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x5x8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x5x8x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x5x8x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S1x1x5x8x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x1x5x8x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x1x5x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x1x5x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]

abbrev stage0_17 : Fin 2 → Memref sig .tc .vmem S1x1x5x8x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, true]

abbrev stage0_18 : Fin 2 → Memref sig .tc .vmem S1x1x5x8x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S1x1x5x8x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S1x1x5x8x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev stage0_21 : Fin 2 → Memref sig .tc .vmem S1x1x5x8x128 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, true]

abbrev stage0_22 : Fin 2 → Memref sig .tc .vmem S1x1x5x8x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, true]

abbrev stage0_23 : Fin 2 → Memref sig .tc .vmem S1x1x5x8x128 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true, true]

abbrev stage0_24 : Fin 1 → Memref sig .tc .vmem S32x48 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false, false, false]

abbrev stage0_25 : Fin 1 → Memref sig .tc .vmem S32x48 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false, false, false]

abbrev stage0_26 : Fin 2 → Memref sig .tc .vmem S1x32x8x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true, true]

abbrev stage0_27 : Fin 2 → Memref sig .tc .vmem S1x32x8x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true, true]
-- ==== ReferenceIdeal.lean ====
abbrev S2x5x64x2048 : Shape := ⟨4, ![2, 5, 64, 2048]⟩
abbrev S5x32x3x3 : Shape := ⟨4, ![5, 32, 3, 3]⟩
abbrev S_ : Shape := ⟨0, ![]⟩
abbrev S2x5x68x2052 : Shape := ⟨4, ![2, 5, 68, 2052]⟩
abbrev S2x5x1x64x2048 : Shape := ⟨5, ![2, 5, 1, 64, 2048]⟩
abbrev S2x5x5x64x2048 : Shape := ⟨5, ![2, 5, 5, 64, 2048]⟩
abbrev S2x5x25x64x2048 : Shape := ⟨5, ![2, 5, 25, 64, 2048]⟩
abbrev S2x5x70x2054 : Shape := ⟨4, ![2, 5, 70, 2054]⟩
abbrev S2x5x7x64x2048 : Shape := ⟨5, ![2, 5, 7, 64, 2048]⟩
abbrev S2x5x49x64x2048 : Shape := ⟨5, ![2, 5, 49, 64, 2048]⟩
abbrev S2x1x64x2048 : Shape := ⟨4, ![2, 1, 64, 2048]⟩
abbrev S2x1x25x64x2048 : Shape := ⟨5, ![2, 1, 25, 64, 2048]⟩
abbrev S2x25x64x2048 : Shape := ⟨4, ![2, 25, 64, 2048]⟩
abbrev S2x1x49x64x2048 : Shape := ⟨5, ![2, 1, 49, 64, 2048]⟩
abbrev S2x49x64x2048 : Shape := ⟨4, ![2, 49, 64, 2048]⟩
abbrev S2x64x2048x25 : Shape := ⟨4, ![2, 64, 2048, 25]⟩
abbrev S2x64x2048x9 : Shape := ⟨4, ![2, 64, 2048, 9]⟩
abbrev S2x9x64x2048 : Shape := ⟨4, ![2, 9, 64, 2048]⟩
abbrev S2x1x9x64x2048 : Shape := ⟨5, ![2, 1, 9, 64, 2048]⟩
abbrev S2x9x64x2048x1 : Shape := ⟨5, ![2, 9, 64, 2048, 1]⟩
abbrev S2x5x9x64x2048 : Shape := ⟨5, ![2, 5, 9, 64, 2048]⟩
abbrev S2x64x2048x49 : Shape := ⟨4, ![2, 64, 2048, 49]⟩
abbrev S2x3x9x64x2048 : Shape := ⟨5, ![2, 3, 9, 64, 2048]⟩
abbrev S2x3x64x2048 : Shape := ⟨4, ![2, 3, 64, 2048]⟩
abbrev S2x3x1x64x2048 : Shape := ⟨5, ![2, 3, 1, 64, 2048]⟩
abbrev S32x5x9 : Shape := ⟨3, ![32, 5, 9]⟩
abbrev S2x64x2048x32 : Shape := ⟨4, ![2, 64, 2048, 32]⟩
abbrev S2x32x64x2048 : Shape := ⟨4, ![2, 32, 64, 2048]⟩

abbrev nBuf : Space → Nat
  | .hbm => 268
  | .vmem => 0
  | .smem => 0
  | _ => 0

abbrev hbmTy0_0 (i : Nat) : BufTy := match i % 128 with
  | 0 => ⟨S2x5x64x2048, .f32⟩
  | 1 => ⟨S2x5x64x2048, .f32⟩
  | 2 => ⟨S5x32x3x3, .f32⟩
  | 3 => ⟨S5x32x3x3, .f32⟩
  | 4 => ⟨S_, .i32⟩
  | 5 => ⟨S_, .f32⟩
  | 6 => ⟨S2x5x68x2052, .f32⟩
  | 7 => ⟨S2x5x64x2048, .f32⟩
  | 8 => ⟨S2x5x64x2048, .f32⟩
  | 9 => ⟨S2x5x64x2048, .f32⟩
  | 10 => ⟨S2x5x64x2048, .f32⟩
  | 11 => ⟨S2x5x64x2048, .f32⟩
  | 12 => ⟨S2x5x1x64x2048, .f32⟩
  | 13 => ⟨S2x5x1x64x2048, .f32⟩
  | 14 => ⟨S2x5x1x64x2048, .f32⟩
  | 15 => ⟨S2x5x1x64x2048, .f32⟩
  | 16 => ⟨S2x5x1x64x2048, .f32⟩
  | 17 => ⟨S2x5x5x64x2048, .f32⟩
  | 18 => ⟨S2x5x64x2048, .f32⟩
  | 19 => ⟨S2x5x64x2048, .f32⟩
  | 20 => ⟨S2x5x64x2048, .f32⟩
  | 21 => ⟨S2x5x64x2048, .f32⟩
  | 22 => ⟨S2x5x64x2048, .f32⟩
  | 23 => ⟨S2x5x1x64x2048, .f32⟩
  | 24 => ⟨S2x5x1x64x2048, .f32⟩
  | 25 => ⟨S2x5x1x64x2048, .f32⟩
  | 26 => ⟨S2x5x1x64x2048, .f32⟩
  | 27 => ⟨S2x5x1x64x2048, .f32⟩
  | 28 => ⟨S2x5x5x64x2048, .f32⟩
  | 29 => ⟨S2x5x64x2048, .f32⟩
  | 30 => ⟨S2x5x64x2048, .f32⟩
  | 31 => ⟨S2x5x64x2048, .f32⟩
  | 32 => ⟨S2x5x64x2048, .f32⟩
  | 33 => ⟨S2x5x64x2048, .f32⟩
  | 34 => ⟨S2x5x1x64x2048, .f32⟩
  | 35 => ⟨S2x5x1x64x2048, .f32⟩
  | 36 => ⟨S2x5x1x64x2048, .f32⟩
  | 37 => ⟨S2x5x1x64x2048, .f32⟩
  | 38 => ⟨S2x5x1x64x2048, .f32⟩
  | 39 => ⟨S2x5x5x64x2048, .f32⟩
  | 40 => ⟨S2x5x64x2048, .f32⟩
  | 41 => ⟨S2x5x64x2048, .f32⟩
  | 42 => ⟨S2x5x64x2048, .f32⟩
  | 43 => ⟨S2x5x64x2048, .f32⟩
  | 44 => ⟨S2x5x64x2048, .f32⟩
  | 45 => ⟨S2x5x1x64x2048, .f32⟩
  | 46 => ⟨S2x5x1x64x2048, .f32⟩
  | 47 => ⟨S2x5x1x64x2048, .f32⟩
  | 48 => ⟨S2x5x1x64x2048, .f32⟩
  | 49 => ⟨S2x5x1x64x2048, .f32⟩
  | 50 => ⟨S2x5x5x64x2048, .f32⟩
  | 51 => ⟨S2x5x64x2048, .f32⟩
  | 52 => ⟨S2x5x64x2048, .f32⟩
  | 53 => ⟨S2x5x64x2048, .f32⟩
  | 54 => ⟨S2x5x64x2048, .f32⟩
  | 55 => ⟨S2x5x64x2048, .f32⟩
  | 56 => ⟨S2x5x1x64x2048, .f32⟩
  | 57 => ⟨S2x5x1x64x2048, .f32⟩
  | 58 => ⟨S2x5x1x64x2048, .f32⟩
  | 59 => ⟨S2x5x1x64x2048, .f32⟩
  | 60 => ⟨S2x5x1x64x2048, .f32⟩
  | 61 => ⟨S2x5x5x64x2048, .f32⟩
  | 62 => ⟨S2x5x25x64x2048, .f32⟩
  | 63 => ⟨S_, .i32⟩
  | 64 => ⟨S_, .f32⟩
  | 65 => ⟨S2x5x70x2054, .f32⟩
  | 66 => ⟨S2x5x64x2048, .f32⟩
  | 67 => ⟨S2x5x64x2048, .f32⟩
  | 68 => ⟨S2x5x64x2048, .f32⟩
  | 69 => ⟨S2x5x64x2048, .f32⟩
  | 70 => ⟨S2x5x64x2048, .f32⟩
  | 71 => ⟨S2x5x64x2048, .f32⟩
  | 72 => ⟨S2x5x64x2048, .f32⟩
  | 73 => ⟨S2x5x1x64x2048, .f32⟩
  | 74 => ⟨S2x5x1x64x2048, .f32⟩
  | 75 => ⟨S2x5x1x64x2048, .f32⟩
  | 76 => ⟨S2x5x1x64x2048, .f32⟩
  | 77 => ⟨S2x5x1x64x2048, .f32⟩
  | 78 => ⟨S2x5x1x64x2048, .f32⟩
  | 79 => ⟨S2x5x1x64x2048, .f32⟩
  | 80 => ⟨S2x5x7x64x2048, .f32⟩
  | 81 => ⟨S2x5x64x2048, .f32⟩
  | 82 => ⟨S2x5x64x2048, .f32⟩
  | 83 => ⟨S2x5x64x2048, .f32⟩
  | 84 => ⟨S2x5x64x2048, .f32⟩
  | 85 => ⟨S2x5x64x2048, .f32⟩
  | 86 => ⟨S2x5x64x2048, .f32⟩
  | 87 => ⟨S2x5x64x2048, .f32⟩
  | 88 => ⟨S2x5x1x64x2048, .f32⟩
  | 89 => ⟨S2x5x1x64x2048, .f32⟩
  | 90 => ⟨S2x5x1x64x2048, .f32⟩
  | 91 => ⟨S2x5x1x64x2048, .f32⟩
  | 92 => ⟨S2x5x1x64x2048, .f32⟩
  | 93 => ⟨S2x5x1x64x2048, .f32⟩
  | 94 => ⟨S2x5x1x64x2048, .f32⟩
  | 95 => ⟨S2x5x7x64x2048, .f32⟩
  | 96 => ⟨S2x5x64x2048, .f32⟩
  | 97 => ⟨S2x5x64x2048, .f32⟩
  | 98 => ⟨S2x5x64x2048, .f32⟩
  | 99 => ⟨S2x5x64x2048, .f32⟩
  | 100 => ⟨S2x5x64x2048, .f32⟩
  | 101 => ⟨S2x5x64x2048, .f32⟩
  | 102 => ⟨S2x5x64x2048, .f32⟩
  | 103 => ⟨S2x5x1x64x2048, .f32⟩
  | 104 => ⟨S2x5x1x64x2048, .f32⟩
  | 105 => ⟨S2x5x1x64x2048, .f32⟩
  | 106 => ⟨S2x5x1x64x2048, .f32⟩
  | 107 => ⟨S2x5x1x64x2048, .f32⟩
  | 108 => ⟨S2x5x1x64x2048, .f32⟩
  | 109 => ⟨S2x5x1x64x2048, .f32⟩
  | 110 => ⟨S2x5x7x64x2048, .f32⟩
  | 111 => ⟨S2x5x64x2048, .f32⟩
  | 112 => ⟨S2x5x64x2048, .f32⟩
  | 113 => ⟨S2x5x64x2048, .f32⟩
  | 114 => ⟨S2x5x64x2048, .f32⟩
  | 115 => ⟨S2x5x64x2048, .f32⟩
  | 116 => ⟨S2x5x64x2048, .f32⟩
  | 117 => ⟨S2x5x64x2048, .f32⟩
  | 118 => ⟨S2x5x1x64x2048, .f32⟩
  | 119 => ⟨S2x5x1x64x2048, .f32⟩
  | 120 => ⟨S2x5x1x64x2048, .f32⟩
  | 121 => ⟨S2x5x1x64x2048, .f32⟩
  | 122 => ⟨S2x5x1x64x2048, .f32⟩
  | 123 => ⟨S2x5x1x64x2048, .f32⟩
  | 124 => ⟨S2x5x1x64x2048, .f32⟩
  | 125 => ⟨S2x5x7x64x2048, .f32⟩
  | 126 => ⟨S2x5x64x2048, .f32⟩
  | 127 => ⟨S2x5x64x2048, .f32⟩
  | _ => ⟨S2x5x64x2048, .f32⟩

abbrev hbmTy0_1 (i : Nat) : BufTy := match i % 128 with
  | 0 => ⟨S2x5x64x2048, .f32⟩
  | 1 => ⟨S2x5x64x2048, .f32⟩
  | 2 => ⟨S2x5x64x2048, .f32⟩
  | 3 => ⟨S2x5x64x2048, .f32⟩
  | 4 => ⟨S2x5x64x2048, .f32⟩
  | 5 => ⟨S2x5x1x64x2048, .f32⟩
  | 6 => ⟨S2x5x1x64x2048, .f32⟩
  | 7 => ⟨S2x5x1x64x2048, .f32⟩
  | 8 => ⟨S2x5x1x64x2048, .f32⟩
  | 9 => ⟨S2x5x1x64x2048, .f32⟩
  | 10 => ⟨S2x5x1x64x2048, .f32⟩
  | 11 => ⟨S2x5x1x64x2048, .f32⟩
  | 12 => ⟨S2x5x7x64x2048, .f32⟩
  | 13 => ⟨S2x5x64x2048, .f32⟩
  | 14 => ⟨S2x5x64x2048, .f32⟩
  | 15 => ⟨S2x5x64x2048, .f32⟩
  | 16 => ⟨S2x5x64x2048, .f32⟩
  | 17 => ⟨S2x5x64x2048, .f32⟩
  | 18 => ⟨S2x5x64x2048, .f32⟩
  | 19 => ⟨S2x5x64x2048, .f32⟩
  | 20 => ⟨S2x5x1x64x2048, .f32⟩
  | 21 => ⟨S2x5x1x64x2048, .f32⟩
  | 22 => ⟨S2x5x1x64x2048, .f32⟩
  | 23 => ⟨S2x5x1x64x2048, .f32⟩
  | 24 => ⟨S2x5x1x64x2048, .f32⟩
  | 25 => ⟨S2x5x1x64x2048, .f32⟩
  | 26 => ⟨S2x5x1x64x2048, .f32⟩
  | 27 => ⟨S2x5x7x64x2048, .f32⟩
  | 28 => ⟨S2x5x64x2048, .f32⟩
  | 29 => ⟨S2x5x64x2048, .f32⟩
  | 30 => ⟨S2x5x64x2048, .f32⟩
  | 31 => ⟨S2x5x64x2048, .f32⟩
  | 32 => ⟨S2x5x64x2048, .f32⟩
  | 33 => ⟨S2x5x64x2048, .f32⟩
  | 34 => ⟨S2x5x64x2048, .f32⟩
  | 35 => ⟨S2x5x1x64x2048, .f32⟩
  | 36 => ⟨S2x5x1x64x2048, .f32⟩
  | 37 => ⟨S2x5x1x64x2048, .f32⟩
  | 38 => ⟨S2x5x1x64x2048, .f32⟩
  | 39 => ⟨S2x5x1x64x2048, .f32⟩
  | 40 => ⟨S2x5x1x64x2048, .f32⟩
  | 41 => ⟨S2x5x1x64x2048, .f32⟩
  | 42 => ⟨S2x5x7x64x2048, .f32⟩
  | 43 => ⟨S2x5x49x64x2048, .f32⟩
  | 44 => ⟨S2x1x64x2048, .f32⟩
  | 45 => ⟨S2x1x25x64x2048, .f32⟩
  | 46 => ⟨S2x25x64x2048, .f32⟩
  | 47 => ⟨S2x25x64x2048, .f32⟩
  | 48 => ⟨S2x25x64x2048, .f32⟩
  | 49 => ⟨S2x25x64x2048, .f32⟩
  | 50 => ⟨S2x25x64x2048, .f32⟩
  | 51 => ⟨S2x1x49x64x2048, .f32⟩
  | 52 => ⟨S2x49x64x2048, .f32⟩
  | 53 => ⟨S2x49x64x2048, .f32⟩
  | 54 => ⟨S2x49x64x2048, .f32⟩
  | 55 => ⟨S2x49x64x2048, .f32⟩
  | 56 => ⟨S2x49x64x2048, .f32⟩
  | 57 => ⟨S2x25x64x2048, .i32⟩
  | 58 => ⟨S_, .i32⟩
  | 59 => ⟨S2x25x64x2048, .i32⟩
  | 60 => ⟨S2x25x64x2048, .i1⟩
  | 61 => ⟨S_, .f32⟩
  | 62 => ⟨S_, .f32⟩
  | 63 => ⟨S2x25x64x2048, .f32⟩
  | 64 => ⟨S2x25x64x2048, .f32⟩
  | 65 => ⟨S2x64x2048x25, .f32⟩
  | 66 => ⟨S2x64x2048x25, .f32⟩
  | 67 => ⟨S2x64x2048x9, .f32⟩
  | 68 => ⟨S2x64x2048x9, .i32⟩
  | 69 => ⟨S2x9x64x2048, .i32⟩
  | 70 => ⟨S2x1x9x64x2048, .i32⟩
  | 71 => ⟨S_, .i32⟩
  | 72 => ⟨S2x1x9x64x2048, .i32⟩
  | 73 => ⟨S2x1x9x64x2048, .i1⟩
  | 74 => ⟨S_, .i32⟩
  | 75 => ⟨S2x1x9x64x2048, .i32⟩
  | 76 => ⟨S2x1x9x64x2048, .i32⟩
  | 77 => ⟨S2x1x9x64x2048, .i32⟩
  | 78 => ⟨S2x9x64x2048x1, .i32⟩
  | 79 => ⟨S2x5x9x64x2048, .f32⟩
  | 80 => ⟨S2x64x2048x49, .f32⟩
  | 81 => ⟨S2x64x2048x49, .f32⟩
  | 82 => ⟨S2x64x2048x9, .f32⟩
  | 83 => ⟨S2x64x2048x9, .i32⟩
  | 84 => ⟨S2x9x64x2048, .i32⟩
  | 85 => ⟨S2x1x9x64x2048, .i32⟩
  | 86 => ⟨S_, .i32⟩
  | 87 => ⟨S2x1x9x64x2048, .i32⟩
  | 88 => ⟨S2x1x9x64x2048, .i1⟩
  | 89 => ⟨S_, .i32⟩
  | 90 => ⟨S2x1x9x64x2048, .i32⟩
  | 91 => ⟨S2x1x9x64x2048, .i32⟩
  | 92 => ⟨S2x1x9x64x2048, .i32⟩
  | 93 => ⟨S2x9x64x2048x1, .i32⟩
  | 94 => ⟨S2x5x9x64x2048, .f32⟩
  | 95 => ⟨S2x3x9x64x2048, .f32⟩
  | 96 => ⟨S2x3x64x2048, .f32⟩
  | 97 => ⟨S2x3x1x64x2048, .f32⟩
  | 98 => ⟨S2x3x9x64x2048, .f32⟩
  | 99 => ⟨S2x3x9x64x2048, .f32⟩
  | 100 => ⟨S2x1x9x64x2048, .f32⟩
  | 101 => ⟨S2x9x64x2048, .f32⟩
  | 102 => ⟨S2x1x9x64x2048, .f32⟩
  | 103 => ⟨S2x9x64x2048, .f32⟩
  | 104 => ⟨S2x1x9x64x2048, .f32⟩
  | 105 => ⟨S2x9x64x2048, .f32⟩
  | 106 => ⟨S2x9x64x2048, .f32⟩
  | 107 => ⟨S2x9x64x2048, .f32⟩
  | 108 => ⟨S2x9x64x2048, .f32⟩
  | 109 => ⟨S2x9x64x2048, .f32⟩
  | 110 => ⟨S2x9x64x2048, .f32⟩
  | 111 => ⟨S2x9x64x2048, .f32⟩
  | 112 => ⟨S2x9x64x2048, .f32⟩
  | 113 => ⟨S2x9x64x2048, .f32⟩
  | 114 => ⟨S2x9x64x2048, .f32⟩
  | 115 => ⟨S2x9x64x2048, .f32⟩
  | 116 => ⟨S2x9x64x2048, .f32⟩
  | 117 => ⟨S2x9x64x2048, .f32⟩
  | 118 => ⟨S2x1x9x64x2048, .f32⟩
  | 119 => ⟨S2x9x64x2048, .f32⟩
  | 120 => ⟨S2x1x9x64x2048, .f32⟩
  | 121 => ⟨S2x9x64x2048, .f32⟩
  | 122 => ⟨S2x1x9x64x2048, .f32⟩
  | 123 => ⟨S2x1x9x64x2048, .f32⟩
  | 124 => ⟨S2x1x9x64x2048, .f32⟩
  | 125 => ⟨S2x1x9x64x2048, .f32⟩
  | 126 => ⟨S2x1x9x64x2048, .f32⟩
  | 127 => ⟨S2x5x9x64x2048, .f32⟩
  | _ => ⟨S2x5x64x2048, .f32⟩

abbrev hbmTy0_2 (i : Nat) : BufTy := match i % 128 with
  | 0 => ⟨S32x5x9, .f32⟩
  | 1 => ⟨S2x64x2048x32, .f32⟩
  | 2 => ⟨S2x32x64x2048, .f32⟩
  | 3 => ⟨S_, .f32⟩
  | 4 => ⟨S2x32x64x2048, .f32⟩
  | 5 => ⟨S2x32x64x2048, .f32⟩
  | 6 => ⟨S32x5x9, .f32⟩
  | 7 => ⟨S2x64x2048x32, .f32⟩
  | 8 => ⟨S2x32x64x2048, .f32⟩
  | 9 => ⟨S_, .f32⟩
  | 10 => ⟨S2x32x64x2048, .f32⟩
  | 11 => ⟨S2x32x64x2048, .f32⟩
  | _ => ⟨S2x5x64x2048, .f32⟩

abbrev hbmTy (i : Nat) : BufTy := match i / 128 with
  | 0 => hbmTy0_0 i
  | 1 => hbmTy0_1 i
  | 2 => hbmTy0_2 i
  | _ => ⟨S2x5x64x2048, .f32⟩

abbrev bufTy : (tb : Table) → Fin (tcTables nBuf tb) → BufTy
  | .hbm, ⟨i, _⟩ => hbmTy i
  | _, _ => ⟨S2x5x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_c_0 : Ref sig .tc := ⟨.hbm, 63, rfl⟩
abbrev main_call1_v0 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_c_1 : Ref sig .tc := ⟨.hbm, 186, rfl⟩
abbrev main_v178 : Ref sig .tc := ⟨.hbm, 187, rfl⟩
abbrev main_v179 : Ref sig .tc := ⟨.hbm, 188, rfl⟩
abbrev main_cst : Ref sig .tc := ⟨.hbm, 189, rfl⟩
abbrev main_call2_v0 : Ref sig .tc := ⟨.hbm, 190, rfl⟩
abbrev main_call2_v1 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_values : Ref sig .tc := ⟨.hbm, 195, rfl⟩
abbrev main_indices : Ref sig .tc := ⟨.hbm, 196, rfl⟩
abbrev main_v183 : Ref sig .tc := ⟨.hbm, 197, rfl⟩
abbrev main_v184 : Ref sig .tc := ⟨.hbm, 198, rfl⟩
abbrev main_call3_c : Ref sig .tc := ⟨.hbm, 199, rfl⟩
abbrev main_call3_v0 : Ref sig .tc := ⟨.hbm, 200, rfl⟩
abbrev main_call3_v1 : Ref sig .tc := ⟨.hbm, 201, rfl⟩
abbrev main_call3_c_0 : Ref sig .tc := ⟨.hbm, 202, rfl⟩
abbrev main_call3_v2 : Ref sig .tc := ⟨.hbm, 203, rfl⟩
abbrev main_call3_v3 : Ref sig .tc := ⟨.hbm, 204, rfl⟩
abbrev main_call3_v4 : Ref sig .tc := ⟨.hbm, 205, rfl⟩
abbrev main_call3_v5 : Ref sig .tc := ⟨.hbm, 206, rfl⟩
abbrev main_v185 : Ref sig .tc := ⟨.hbm, 207, rfl⟩
abbrev main_v186 : Ref sig .tc := ⟨.hbm, 208, rfl⟩
abbrev main_v187 : Ref sig .tc := ⟨.hbm, 209, rfl⟩
abbrev main_values_2 : Ref sig .tc := ⟨.hbm, 210, rfl⟩
abbrev main_indices_3 : Ref sig .tc := ⟨.hbm, 211, rfl⟩
abbrev main_v188 : Ref sig .tc := ⟨.hbm, 212, rfl⟩
abbrev main_v189 : Ref sig .tc := ⟨.hbm, 213, rfl⟩
abbrev main_call4_c : Ref sig .tc := ⟨.hbm, 214, rfl⟩
abbrev main_call4_v0 : Ref sig .tc := ⟨.hbm, 215, rfl⟩
abbrev main_call4_v1 : Ref sig .tc := ⟨.hbm, 216, rfl⟩
abbrev main_call4_c_0 : Ref sig .tc := ⟨.hbm, 217, rfl⟩
abbrev main_call4_v2 : Ref sig .tc := ⟨.hbm, 218, rfl⟩
abbrev main_call4_v3 : Ref sig .tc := ⟨.hbm, 219, rfl⟩
abbrev main_call4_v4 : Ref sig .tc := ⟨.hbm, 220, rfl⟩
abbrev main_call4_v5 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_v204 : Ref sig .tc := ⟨.hbm, 236, rfl⟩
abbrev main_v205 : Ref sig .tc := ⟨.hbm, 237, rfl⟩
abbrev main_v206 : Ref sig .tc := ⟨.hbm, 238, rfl⟩
abbrev main_v207 : Ref sig .tc := ⟨.hbm, 239, rfl⟩
abbrev main_v208 : Ref sig .tc := ⟨.hbm, 240, rfl⟩
abbrev main_v209 : Ref sig .tc := ⟨.hbm, 241, rfl⟩
abbrev main_v210 : Ref sig .tc := ⟨.hbm, 242, rfl⟩
abbrev main_v211 : Ref sig .tc := ⟨.hbm, 243, rfl⟩
abbrev main_v212 : Ref sig .tc := ⟨.hbm, 244, rfl⟩
abbrev main_v213 : Ref sig .tc := ⟨.hbm, 245, rfl⟩
abbrev main_v214 : Ref sig .tc := ⟨.hbm, 246, rfl⟩
abbrev main_v215 : Ref sig .tc := ⟨.hbm, 247, rfl⟩
abbrev main_v216 : Ref sig .tc := ⟨.hbm, 248, rfl⟩
abbrev main_v217 : Ref sig .tc := ⟨.hbm, 249, rfl⟩
abbrev main_v218 : Ref sig .tc := ⟨.hbm, 250, rfl⟩
abbrev main_v219 : Ref sig .tc := ⟨.hbm, 251, rfl⟩
abbrev main_v220 : Ref sig .tc := ⟨.hbm, 252, rfl⟩
abbrev main_v221 : Ref sig .tc := ⟨.hbm, 253, rfl⟩
abbrev main_v222 : Ref sig .tc := ⟨.hbm, 254, rfl⟩
abbrev main_v223 : Ref sig .tc := ⟨.hbm, 255, rfl⟩
abbrev main_v224 : Ref sig .tc := ⟨.hbm, 256, rfl⟩
abbrev main_v225 : Ref sig .tc := ⟨.hbm, 257, rfl⟩
abbrev main_v226 : Ref sig .tc := ⟨.hbm, 258, rfl⟩
abbrev main_call5_cst : Ref sig .tc := ⟨.hbm, 259, rfl⟩
abbrev main_call5_v0 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_call6_cst : Ref sig .tc := ⟨.hbm, 265, rfl⟩
abbrev main_call6_v0 : Ref sig .tc := ⟨.hbm, 266, rfl⟩
abbrev main_v231 : Ref sig .tc := ⟨.hbm, 267, rfl⟩

abbrev nD : Nat := 1
abbrev τ : Topo := Topo.v7x

variable {F : FTy → Type} [FloatOps F]
-- ==== Proof.Body.lean ====
/-
  The kernel's body written as the loops of its source: every statement of the body is a load, a store or a pure
  operation, and `body` makes the same loads and stores in the same order, the pure operations written as plain
  functions of what was loaded. `body_eq` says that the printed body is this program.
-/
module

public import proofs.«01_k».proof.Proof.Gen.KernelIdeal
public import Idealize.ShloMosaic.Lib.Tactic

@[expose] public section

noncomputable section

namespace Cert.KernelIdeal.Knn

open Idealize.ShloMosaic Idealize.SL.Sem
open Cert.KernelIdeal.Gen

variable {F : FTy → Type} [FloatOps F]

/-- One 8×128 tile of numbers. -/
abbrev Tile (F : FTy → Type) [FloatOps F] : Type := FVec F S8x128 .f32

/-- The kernel's programs that return nothing. -/
abbrev P (F : FTy → Type) [FloatOps F] : Type 1 := Prog (TpuEff nD τ sig (Elt F) Λ₀ .tc) PUnit

/-- The shape of a scratch buffer of `n` tiles. -/
abbrev Planes (n : ℕ) : Shape := ⟨3, ![n, 8, 128]⟩

/-- The buffers the body works on: the blocks of the two inputs (shift, upper or lower block), the two weights, the two
    results' blocks, and the scratch buffers. -/
structure Bufs where
  xb : Fin 5 → Fin 2 → Memref sig .tc .vmem S1x1x5x8x128 .f32
  pb : Fin 7 → Fin 2 → Memref sig .tc .vmem S1x1x5x8x128 .f32
  w : Memref sig .tc .vmem S32x48 .f32
  pw : Memref sig .tc .vmem S32x48 .f32
  o : Memref sig .tc .vmem S1x32x8x128 .f32
  po : Memref sig .tc .vmem S1x32x8x128 .f32
  gi : Memref sig .tc .vmem (Planes 48) .f32
  gp : Memref sig .tc .vmem (Planes 48) .f32
  d1 : Memref sig .tc .vmem (Planes 25) .f32
  d2 : Memref sig .tc .vmem (Planes 49) .f32
  a1 : Memref sig .tc .vmem (Planes 9) .f32
  a2 : Memref sig .tc .vmem (Planes 9) .f32

/-! ## Loads and stores of one tile -/

theorem row_inb {n : ℕ} (s : Fin n) : ∀ a, (![s.val, 0, 0] : Fin 3 → ℕ) a + S1x8x128.size a ≤ (Planes n).size a := by
  intro a
  match a with
  | 0 => exact s.isLt
  | 1 => exact Nat.le_refl 8
  | 2 => exact Nat.le_refl 128

/-- Row `s` of a scratch buffer, as a rectangle. -/
abbrev rowRect {n : ℕ} (s : Fin n) : Rect (Planes n) := Rect.unit (s := Planes n) ![s.val, 0, 0] S1x8x128.size (row_inb s)

/-- Load tile `s` of a scratch buffer. -/
def ldRow {n : ℕ} (M : Memref sig .tc .vmem (Planes n) .f32) (s : Fin n) (κ : Tile F → P F) : P F :=
  .op (.load M (rowRect s).toLoadRect (View.loadsAt_vmem h_S1x8x128))
    fun v => κ (shapeCast S8x128 v shapeCasts_S1x8x128_S8x128)

/-- Store `v` as tile `s` of a scratch buffer (the tile there is loaded first and not used). -/
def stRow {n : ℕ} (M : Memref sig .tc .vmem (Planes n) .f32) (s : Fin n) (v : Tile F) (κ : P F) : P F :=
  .op (.load M (rowRect s).toLoadRect (View.loadsAt_vmem h_S1x8x128)) fun _ =>
    .op (.store M (rowRect s) (shapeCast S1x8x128 v shapeCasts_S8x128_S1x8x128) Finset.univ
      (View.stores_vmem_bits_univ h_S1x8x128 rfl) (.inl rfl)) fun _ => κ

theorem chan_inb (c : Fin 5) : ∀ a, (![0, 0, c.val, 0, 0] : Fin 5 → ℕ) a + S1x1x1x8x128.size a ≤ S1x1x5x8x128.size a := by
  revert c; decide

/-- Channel `c` of a block. -/
abbrev chanRect (c : Fin 5) : Rect S1x1x5x8x128 := Rect.unit (s := S1x1x5x8x128) ![0, 0, c.val, 0, 0] S1x1x1x8x128.size (chan_inb c)

/-- The two blocks of channel `c` above one another. -/
def stack2 (v v' : Vec F S1x1x1x8x128 .f32) : FVec F S16x128 .f32 :=
  concatenate S16x128 0 [⟨S8x128, shapeCast S8x128 v shapeCasts_S1x1x1x8x128_S8x128⟩, ⟨S8x128, shapeCast S8x128 v' shapeCasts_S1x1x1x8x128_S8x128⟩]
    concatenates_S8x128_S8x128_S16x128_d0

/-- Load channel `c` of an upper and a lower block. -/
def ldCol (M : Fin 2 → Memref sig .tc .vmem S1x1x5x8x128 .f32) (c : Fin 5) (κ : FVec F S16x128 .f32 → P F) : P F :=
  .op (.load (M 0) (chanRect c).toLoadRect (View.loadsAt_vmem h_S1x1x1x8x128)) fun v =>
    .op (.load (M 1) (chanRect c).toLoadRect (View.loadsAt_vmem h_S1x1x1x8x128)) fun v' => κ (stack2 v v')

theorem slices_rows (d : Fin 8) : S16x128.Slices ![d.val, 0] S8x128 := by revert d; decide

/-- The eight rows from row `d` on. -/
def rows (v : FVec F S16x128 .f32) (d : Fin 8) : Tile F := extractStridedSlice S8x128 ![d.val, 0] v (slices_rows d)

/-! ## The pure operations -/

/-- The bits of the numbers below 49 as 32-bit floats. -/
def slotWords : List (BitVec 32) :=
  [0x00000000#32, 0x3F800000#32, 0x40000000#32, 0x40400000#32, 0x40800000#32, 0x40A00000#32, 0x40C00000#32, 0x40E00000#32,
    0x41000000#32, 0x41100000#32, 0x41200000#32, 0x41300000#32, 0x41400000#32, 0x41500000#32, 0x41600000#32, 0x41700000#32,
    0x41800000#32, 0x41880000#32, 0x41900000#32, 0x41980000#32, 0x41A00000#32, 0x41A80000#32, 0x41B00000#32, 0x41B80000#32,
    0x41C00000#32, 0x41C80000#32, 0x41D00000#32, 0x41D80000#32, 0x41E00000#32, 0x41E80000#32, 0x41F00000#32, 0x41F80000#32,
    0x42000000#32, 0x42040000#32, 0x42080000#32, 0x420C0000#32, 0x42100000#32, 0x42140000#32, 0x42180000#32, 0x421C0000#32,
    0x42200000#32, 0x42240000#32, 0x42280000#32, 0x422C0000#32, 0x42300000#32, 0x42340000#32, 0x42380000#32, 0x423C0000#32, 0x42400000#32]

/-- The bits of the number `s` as a 32-bit float, for `s` below 49. -/
def slotBits (s : ℕ) : BitVec 32 := slotWords.getD s 0#32

/-- A tile of one number, given by its bits. -/
def splat (b : BitVec 32) : Tile F := broadcast S8x128 (Scalar.ofBits .f32 b : F .f32)

/-- A candidate: a tile of values and the tile of the slots they are from. -/
structure Node (F : FTy → Type) [FloatOps F] where
  v : Tile F
  i : Tile F

/-- Of two candidates the smaller, the left one where equal. -/
def Node.min (l r : Node F) : Node F :=
  ⟨select (cmpf .olt r.v l.v) r.v l.v, select (cmpf .olt r.v l.v) r.i l.i⟩

/-- One level of the tree: neighbours compared, an odd one kept. -/
def level : List (Node F) → List (Node F)
  | l :: r :: t => Node.min l r :: level t
  | [l] => [l]
  | [] => []

/-- The slots' values as candidates. -/
def leaves {n : ℕ} (sv : List (Fin n × Tile F)) : List (Node F) := sv.map fun p => ⟨p.2, splat (slotBits p.1.val)⟩

/-- The slot of the smallest value, the lowest slot where equal. -/
def argmin {n : ℕ} (sv : List (Fin n × Tile F)) : Tile F :=
  match level (level (level (level (level (level (leaves sv)))))) with
  | [] => splat 0
  | l :: _ => l.i

/-- A slot's value after the pass that picked the slots `ai`. -/
def masked {n : ℕ} (ai : Tile F) (p : Fin n × Tile F) : Tile F :=
  select (cmpf .oeq ai (splat (slotBits p.1.val))) (splat 0x7F800000#32) p.2

/-! ## The loops -/

/-- Load the tiles of the slots in a list. -/
def ldRows {n : ℕ} (M : Memref sig .tc .vmem (Planes n) .f32) : List (Fin n) → (List (Fin n × Tile F) → P F) → P F
  | [], κ => κ []
  | s :: l, κ => ldRow M s fun v => ldRows M l fun vs => κ ((s, v) :: vs)

/-- Store a list of tiles. -/
def stRows {n : ℕ} (M : Memref sig .tc .vmem (Planes n) .f32) : List (Fin n × Tile F) → P F → P F
  | [], κ => κ
  | p :: l, κ => stRow M p.1 p.2 (stRows M l κ)

/-- One pass: the slots of the smallest values stored as tile `j` of `A`; and, unless it is the last pass, each picked
    value replaced by infinity. -/
def pass {n : ℕ} (slots : List (Fin n)) (D : Memref sig .tc .vmem (Planes n) .f32) (A : Memref sig .tc .vmem (Planes 9) .f32)
    (j : Fin 9) (last : Bool) (κ : P F) : P F :=
  ldRows D slots fun sv =>
    stRow A j (argmin sv) (cond last κ (stRows D (sv.map fun p => (p.1, masked (argmin sv) p)) κ))

/-- Slot `(di, dj)` of the 5×5 window. -/
def slot5 (di dj : Fin 5) : Fin 25 := ⟨di.val * 5 + dj.val, by omega⟩
/-- Slot `(di, dj)` of the 7×7 window. -/
def slot7 (di dj : Fin 7) : Fin 49 := ⟨di.val * 7 + dj.val, by omega⟩

def fin5 : List (Fin 5) := [0, 1, 2, 3, 4]
def fin7 : List (Fin 7) := [0, 1, 2, 3, 4, 5, 6]
def fin9 : List (Fin 9) := [0, 1, 2, 3, 4, 5, 6, 7, 8]
def fin8 : List (Fin 9) := [0, 1, 2, 3, 4, 5, 6, 7]

/-- The rows of the 5×5 window beside the centre, in column `dj`. -/
def dis5 (dj : Fin 5) : List (Fin 5) := if dj = 2 then [0, 1, 3, 4] else fin5

/-- The slots of the 5×5 window beside the centre. -/
def slots5 : List (Fin 25) := [0, 1, 2, 3, 4, 5, 6, 7, 8, 9, 10, 11, 13, 14, 15, 16, 17, 18, 19, 20, 21, 22, 23, 24]
/-- The slots of the 7×7 window. -/
def slots7 : List (Fin 49) :=
  [0, 1, 2, 3, 4, 5, 6, 7, 8, 9, 10, 11, 12, 13, 14, 15, 16, 17, 18, 19, 20, 21, 22, 23, 24, 25, 26, 27, 28, 29, 30, 31, 32,
    33, 34, 35, 36, 37, 38, 39, 40, 41, 42, 43, 44, 45, 46, 47, 48]

/-- Row `di` of the 5×5 window, counted in the stacked blocks. -/
def row5 (di : Fin 5) : Fin 8 := ⟨di.val + 1, by omega⟩
/-- Row `di` of the 7×7 window, counted in the stacked blocks. -/
def row7 (di : Fin 7) : Fin 8 := ⟨di.val, by omega⟩

/-- The distances of the 5×5 window's slots. -/
def dist5 (B : Bufs) (center : Tile F) (κ : P F) : P F :=
  fin5.foldr (fun dj κ => ldCol (B.xb dj) 0 fun sc =>
    stRows B.d1 ((dis5 dj).map fun di => (slot5 di dj, absf (subf (rows sc (row5 di)) center))) κ) κ

/-- The distances of the 7×7 window's slots. -/
def dist7 (B : Bufs) (center : Tile F) (κ : P F) : P F :=
  fin7.foldr (fun dj κ => ldCol (B.pb dj) 0 fun sc =>
    stRows B.d2 (fin7.map fun di => (slot7 di dj, absf (subf (rows sc (row7 di)) center))) κ) κ

/-- All passes. -/
def passes (B : Bufs) (κ : P F) : P F :=
  fin8.foldr (fun j κ => pass slots5 B.d1 B.a1 j (j == 7) (pass slots7 B.d2 B.a2 j false κ)) (pass slots7 B.d2 B.a2 8 true κ)

/-- Load some channels of one shift. -/
def ldChans (M : Fin 2 → Memref sig .tc .vmem S1x1x5x8x128 .f32) : List (Fin 5) → (List (Fin 5 × FVec F S16x128 .f32) → P F) → P F
  | [], κ => κ []
  | c :: l, κ => ldCol M c fun v => ldChans M l fun vs => κ ((c, v) :: vs)

/-- Load some channels of all shifts in a list. -/
def ldShifts {k : ℕ} (M : Fin k → Fin 2 → Memref sig .tc .vmem S1x1x5x8x128 .f32) (cs : List (Fin 5)) :
    List (Fin k) → (List (Fin k × List (Fin 5 × FVec F S16x128 .f32)) → P F) → P F
  | [], κ => κ []
  | dj :: l, κ => ldChans (M dj) cs fun v => ldShifts M cs l fun vs => κ ((dj, v) :: vs)

/-- The value of the slot that `ai` names, over one shift's rows. -/
def pickRows {k n : ℕ} (slot : Fin k → Fin k → Fin n) (row : Fin k → Fin 8) (ai : Tile F) (dj : Fin k) (sc : FVec F S16x128 .f32) :
    List (Fin k) → Tile F → Tile F
  | [], prev => prev
  | di :: l, prev => pickRows slot row ai dj sc l (select (cmpf .oeq ai (splat (slotBits (slot di dj).val))) (rows sc (row di)) prev)

/-- The value of the slot that `ai` names, over all shifts, channel number `p` of those loaded. -/
def pick {k n : ℕ} (slot : Fin k → Fin k → Fin n) (row : Fin k → Fin 8) (dis : Fin k → List (Fin k)) (ai : Tile F) (p : ℕ) :
    List (Fin k × List (Fin 5 × FVec F S16x128 .f32)) → Tile F → Tile F
  | [], prev => prev
  | dc :: l, prev => pick slot row dis ai p l (match dc.2[p]? with
    | some cv => pickRows slot row ai dc.1 cv.2 (dis dc.1) prev
    | none => prev)

/-- The rows of the gathered values: pass `j` of channel `c` is row `9 * c + jbase + j`. -/
def grow (c : Fin 5) (j : Fin 9) : Fin 48 := ⟨c.val * 9 + j.val, by omega⟩

/-- The gathered values of some channels stored: `row5`'s centre first when the window has one. -/
def gather {k n : ℕ} (M : Fin k → Fin 2 → Memref sig .tc .vmem S1x1x5x8x128 .f32) (slot : Fin k → Fin k → Fin n) (row : Fin k → Fin 8)
    (dis : Fin k → List (Fin k)) (djs : List (Fin k)) (js : List (Fin 9)) (tgt : Fin 9 → Fin 9)
    (S : Memref sig .tc .vmem (Planes 48) .f32) (A : Memref sig .tc .vmem (Planes 9) .f32) (cs : List (Fin 5)) (κ : P F) : P F :=
  ldRows A js fun ais => ldShifts M cs djs fun cols =>
    stRows S (ais.flatMap fun ja => cs.zipIdx.map fun cp => (grow cp.1 (tgt ja.1), pick slot row dis ja.2 cp.2 cols (splat 0#32))) κ

/-- The centre's values of some channels stored as their first rows. -/
def centres (B : Bufs) (cs : List (Fin 5)) (κ : P F) : P F :=
  cs.foldr (fun c κ => ldCol (B.xb 2) c fun sc => stRow B.gi (grow c 0) (rows sc 3) κ) κ

/-- The pass after pass `j`. -/
def next (j : Fin 9) : Fin 9 := j + 1

def gather5 (B : Bufs) (cs : List (Fin 5)) (κ : P F) : P F :=
  centres B cs (gather B.xb slot5 row5 dis5 fin5 fin8 next B.gi B.a1 cs κ)

def gather7 (B : Bufs) (cs : List (Fin 5)) (κ : P F) : P F :=
  gather B.pb slot7 row7 (fun _ => fin7) fin7 fin9 id B.gp B.a2 cs κ

/-- The matrix product and the ramp, as a block of the result. -/
def mm (w : Vec F S32x48 .f32) (g : Vec F S48x8x128 .f32) : Vec F S1x32x8x128 .f32 :=
  shapeCast S1x32x8x128 (shapeCast S32x8x128
    (maximumf (matmul dot_S32x48_S48x1024_S32x1024_1_0_0_1_n_n none (shapeCast S32x48 w shapeCasts_S32x48_S32x48)
      (shapeCast S48x1024 g shapeCasts_S48x8x128_S48x1024) (constant S32x1024 .f32 0x00000000#32))
      (broadcast S32x1024 (Scalar.ofBits .f32 0x00000000#32 : F .f32))) shapeCasts_S32x1024_S32x8x128) shapeCasts_S32x8x128_S1x32x8x128

/-- The padding rows zeroed, then the product of all rows with the weights stored as the result's block. -/
def matmulOut (S : Memref sig .tc .vmem (Planes 48) .f32) (W : Memref sig .tc .vmem S32x48 .f32) (O : Memref sig .tc .vmem S1x32x8x128 .f32)
    (κ : P F) : P F :=
  stRows S [(45, splat 0#32), (46, splat 0#32), (47, splat 0#32)]
    (.op (.load S (Rect.unit (s := S48x8x128) ![0, 0, 0] S48x8x128.size inb_S48x8x128_S48x8x128_0_0_0).toLoadRect (View.loadsAt_vmem h_S48x8x128)) fun g =>
    .op (.load W (Rect.unit (s := S32x48) ![0, 0] S32x48.size inb_S32x48_S32x48_0_0).toLoadRect (View.loadsAt_vmem h_S32x48)) fun w =>
    .op (.load O (Rect.unit (s := S1x32x8x128) ![0, 0, 0, 0] S1x32x8x128.size inb_S1x32x8x128_S1x32x8x128_0_0_0_0).toLoadRect (View.loadsAt_vmem h_S1x32x8x128)) fun _ =>
    .op (.store O (Rect.unit (s := S1x32x8x128) ![0, 0, 0, 0] S1x32x8x128.size inb_S1x32x8x128_S1x32x8x128_0_0_0_0) (mm w g) Finset.univ
      (View.stores_vmem_bits_univ h_S1x32x8x128 rfl) (.inl rfl)) fun _ => κ)

/-- The squared distance in the plane, and the squared height. -/
def plane2 (x y : Tile F) : Tile F := addf (mulf x x) (mulf y y)
def radius (x y z : Tile F) : Tile F := sqrt (addf (plane2 x y) (mulf z z))
def angle (x y z : Tile F) : Tile F := atan2 (sqrt (plane2 x y)) (mulf z z)
def angle2 (x y z : Tile F) : Tile F := atan2 (mulf (angle x y z) (angle x y z)) (mulf (radius x y z) (radius x y z))

/-- One neighbour's coordinates replaced by its radius and angles around the point `(ax, ay, az)`. -/
def polar (S : Memref sig .tc .vmem (Planes 48) .f32) (ax ay az : Tile F) (j : Fin 9) (κ : P F) : P F :=
  ldRow S (grow 1 j) fun x => ldRow S (grow 2 j) fun y => ldRow S (grow 3 j) fun z =>
    stRows S [(grow 1 j, radius (subf x ax) (subf y ay) (subf z az)), (grow 2 j, angle (subf x ax) (subf y ay) (subf z az)),
      (grow 3 j, angle2 (subf x ax) (subf y ay) (subf z az))] κ

/-- All neighbours' coordinates replaced. -/
def polars (B : Bufs) (κ : P F) : P F :=
  ldRow B.gi 9 fun ax => ldRow B.gi 18 fun ay => ldRow B.gi 27 fun az => fin9.foldr (polar B.gp ax ay az) κ

/-- The whole body. -/
def body (B : Bufs) : P F :=
  ldCol (B.xb 2) 0 fun sc => dist5 B (rows sc 3) <| dist7 B (rows sc 3) <| passes B <|
    gather5 B [0, 1, 2] <| gather5 B [3, 4] <| matmulOut B.gi B.w B.o <|
    gather7 B [0, 1, 2] <| gather7 B [3, 4] <| polars B <| matmulOut B.gp B.pw B.po <| .ret ⟨⟩

end Cert.KernelIdeal.Knn
-- ==== Proof.Rules.lean ====
/-
  Rules for the loops of the body: what is held before and after a loop, with the contents of the buffers as plain
  functions. A loop works on one buffer out of many; `Lens` says that the buffer can be taken out and put back.
-/
module

public import proofs.«01_k».proof.Proof.Body
public import Idealize.ShloMosaic.Lib.VecWindow
public import Idealize.ShloMosaic.Lib.Writes
public import Idealize.ShloMosaic.Lib.Claim

@[expose] public section

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## Taking one buffer out of many -/

/-- `A v` is a part of `T v`, and the rest of `T v` does not depend on `v`. -/
def Lens {α : Type} (T A : α → sProp 𝕄) : Prop := ∃ R : sProp 𝕄, ∀ v, (T v ⊢ iprop(A v ∗ R)) ∧ (iprop(A v ∗ R) ⊢ T v)

/-- `A` is a part of `T`. -/
def Has (T A : sProp 𝕄) : Prop := ∃ R : sProp 𝕄, (T ⊢ iprop(A ∗ R)) ∧ (iprop(A ∗ R) ⊢ T)

theorem Lens.left {α : Type} (A : α → sProp 𝕄) (R : sProp 𝕄) : Lens (fun v => iprop(A v ∗ R)) A := ⟨R, fun _ => ⟨.rfl, .rfl⟩⟩

theorem Lens.right {α : Type} {T A : α → sProp 𝕄} (Q : sProp 𝕄) (h : Lens T A) : Lens (fun v => iprop(Q ∗ T v)) A := by
  obtain ⟨R, h⟩ := h
  refine ⟨iprop(Q ∗ R), fun v => ⟨?_, ?_⟩⟩
  · refine (sep_mono_right (h v).1).trans ?_
    iintro ⟨H1, H2, H3⟩
    isplitl [H2]; · iexact H2
    isplitl [H1]; · iexact H1
    iexact H3
  · refine BIBase.Entails.trans ?_ (sep_mono_right (h v).2)
    iintro ⟨H1, H2, H3⟩
    isplitl [H2]; · iexact H2
    isplitl [H1]; · iexact H1
    iexact H3

theorem Has.left (A R : sProp 𝕄) : Has iprop(A ∗ R) A := ⟨R, .rfl, .rfl⟩

theorem Has.right {T A : sProp 𝕄} (Q : sProp 𝕄) (h : Has T A) : Has iprop(Q ∗ T) A := by
  obtain ⟨R, h⟩ := Lens.right (α := Unit) (T := fun _ => T) (A := fun _ => A) Q (by
    obtain ⟨R, h⟩ := h
    exact ⟨R, fun _ => h⟩)
  exact ⟨R, h ()⟩

/-- The assertions of a list side by side, before `R`. -/
def sepL : List (sProp 𝕄) → sProp 𝕄 → sProp 𝕄
  | [], R => R
  | A :: l, R => iprop(A ∗ sepL l R)

theorem Has.of_mem {A : sProp 𝕄} (R : sProp 𝕄) : {l : List (sProp 𝕄)} → A ∈ l → Has (sepL l R) A
  | _ :: l, h => by
    rcases List.mem_cons.mp h with rfl | h
    · exact Has.left _ _
    · exact Has.right _ (Has.of_mem R h)

/-! ## The contents of a scratch buffer as a function of the tile -/

/-- Tile `s` of a buffer's contents. -/
def plane {n : ℕ} (X : Vec F (Planes n) .f32) (s : Fin n) : Tile F :=
  shapeCast S8x128 (VecWindow.window X ![s.val, 0, 0] S1x8x128.size (row_inb s)) shapeCasts_S1x8x128_S8x128

/-- The buffer is held, its tiles those of `g`. -/
def tilesOf (c : Dev nD) {n : ℕ} (M : Memref sig .tc .vmem (Planes n) .f32) (g : Fin n → Tile F) : sProp 𝕄 :=
  iprop(∃ X : Vec F (Planes n) .f32, ⌜plane X = g⌝ ∗ owns (c : Thread nD τ) M fullShare X)

/-- What `g` is after the tiles of a list are stored. -/
def upd {n : ℕ} (g : Fin n → Tile F) : List (Fin n × Tile F) → Fin n → Tile F
  | [] => g
  | p :: l => upd (Function.update g p.1 p.2) l

theorem plane_put_same {n : ℕ} (X : Vec F (Planes n) .f32) (s : Fin n) (v : Tile F) :
    plane (VecWindow.put X ![s.val, 0, 0] S1x8x128.size (shapeCast S1x8x128 v shapeCasts_S8x128_S1x8x128)) s = v := by
  unfold plane
  rw [VecWindow.window_put_same]
  funext y
  show v (Shape.reshapeEquiv _ (Shape.reshapeEquiv _ y)) = v y
  congr 1
  rw [Shape.reshapeEquiv_reshapeEquiv, Shape.reshapeEquiv_self]

theorem plane_put {n : ℕ} (X : Vec F (Planes n) .f32) (s : Fin n) (v : Tile F) :
    plane (VecWindow.put X ![s.val, 0, 0] S1x8x128.size (shapeCast S1x8x128 v shapeCasts_S8x128_S1x8x128))
      = Function.update (plane X) s v := by
  funext t
  by_cases h : t = s
  · subst h; rw [Function.update_self, plane_put_same]
  · rw [Function.update_of_ne h]
    unfold plane
    rw [VecWindow.window_put_of_disjoint X ![s.val, 0, 0] S1x8x128.size ![t.val, 0, 0] S1x8x128.size (row_inb t) _ 0]
    have : t.val ≠ s.val := fun e => h (Fin.ext e)
    show t.val + 1 ≤ s.val ∨ s.val + 1 ≤ t.val
    omega

/-! ## Loads and stores -/

/-- What is left to show of a program: it runs to its end with `Q`. -/
abbrev WP (c : Dev nD) (κ : P F) (Q : PUnit → sProp 𝕄) : sProp 𝕄 :=
  wp frame (wpE (defs₀ (F := F)) Variants.none (c : Thread nD τ) none) Set.univ κ Q

variable {c : Dev nD}

/-- A load: the program goes on at the window of the contents. -/
theorem load_owns {Post : PUnit → sProp 𝕄} {s : Shape} {M : Memref sig .tc .vmem s .f32} {off size : Fin s.rank → ℕ} {inb : ∀ a, off a + size a ≤ s.size a}
    {hl : M.view.LoadsAt (Rect.unit off size inb).toLoadRect} {k : ((Rect.unit off size inb).toLoadRect.shape.Idx → Elt F .f32) → P F}
    {X : Vec F s .f32} {T : sProp 𝕄} (h : Has T (owns (c : Thread nD τ) M fullShare X))
    (hk : T ⊢ WP c (k (VecWindow.window X off size inb)) Post) :
    T ⊢ WP c (.op (.load M (Rect.unit off size inb).toLoadRect hl) k) Post := by
  obtain ⟨R, h1, h2⟩ := h
  refine h1.trans ?_
  have hk := h2.trans hk
  unfold owns at hk ⊢
  iintro ⟨⟨%f, %hf, H⟩, HR⟩
  iapply (wp_load Variants.none (c : Thread nD τ) none Set.univ (m := M) (M.view.setOn_subset_set _)) $$ H
  iintro H
  rw [View.readAt_unit M.view f inb rfl inb, hf]
  iapply hk
  isplitl [H]
  · iexists f; isplitr; · ipureintro; exact hf
    iexact H
  iexact HR

/-- A store: the program goes on with the window put. -/
theorem store_owns {Post : PUnit → sProp 𝕄} {s : Shape} {M : Memref sig .tc .vmem s .f32} {off size : Fin s.rank → ℕ} {inb : ∀ a, off a + size a ≤ s.size a}
    {w : (Rect.unit off size inb).shape.Idx → Elt F .f32} {hx : (M.access (Rect.unit off size inb)).Stores Finset.univ}
    {hm : (Finset.univ : Finset (Rect.unit off size inb).shape.Idx) = Finset.univ ∨ ∀ a, (Rect.unit off size inb).stride a = 1} {k : PUnit → P F}
    {X : Vec F s .f32} {T : Vec F s .f32 → sProp 𝕄} (h : Lens T fun X => owns (c : Thread nD τ) M fullShare X)
    (hk : T (VecWindow.put X off size w) ⊢ WP c (k ⟨⟩) Post) :
    T X ⊢ WP c (.op (.store M (Rect.unit off size inb) w Finset.univ hx hm) k) Post := by
  obtain ⟨R, h⟩ := h
  refine (h X).1.trans ?_
  have hk := (h _).2.trans hk
  unfold owns at hk ⊢
  iintro ⟨⟨%f, %hf, H⟩, HR⟩
  iapply (wp_store_writes₀ Variants.none (c : Thread nD τ) none Set.univ (m := M) (M.view.set_slice_subset _)) $$ H
  iintro H
  iapply hk
  isplitl [H]
  · iexists _; isplitr
    swap; · iexact H
    ipureintro
    rw [View.read_writes_cons_put M.view f inb w [] rfl, View.writes_nil, hf]
  iexact HR

theorem Lens.has {α : Type} {T A : α → sProp 𝕄} (h : Lens T A) (v : α) : Has (T v) (A v) := by
  obtain ⟨R, h⟩ := h
  exact ⟨R, h v⟩

/-- Loading one tile. -/
theorem ldRow_rule {Post : PUnit → sProp 𝕄} {n : ℕ} {M : Memref sig .tc .vmem (Planes n) .f32} {s : Fin n} {κ : Tile F → P F}
    {g : Fin n → Tile F} {T : (Fin n → Tile F) → sProp 𝕄} (h : Lens T (tilesOf c M)) (hk : T g ⊢ WP c (κ (g s)) Post) :
    T g ⊢ WP c (ldRow M s κ) Post := by
  obtain ⟨R, h⟩ := h
  refine (h g).1.trans ?_
  have hk := (h g).2.trans hk
  unfold tilesOf at hk ⊢
  iintro ⟨⟨%X, %hX, H⟩, HR⟩
  have hk' : iprop(owns (c : Thread nD τ) M fullShare X ∗ R) ⊢ WP c (κ (plane X s)) Post := by
    rw [hX]
    refine BIBase.Entails.trans ?_ hk
    iintro ⟨H, HR⟩
    isplitl [H]
    · iexists X; isplitr; · ipureintro; exact hX
      iexact H
    iexact HR
  iapply (load_owns (Has.left _ R) hk')
  isplitl [H]; · iexact H
  iexact HR

/-- Storing one tile. -/
theorem stRow_rule {Post : PUnit → sProp 𝕄} {n : ℕ} {M : Memref sig .tc .vmem (Planes n) .f32} {s : Fin n} {v : Tile F} {κ : P F}
    {g : Fin n → Tile F} {T : (Fin n → Tile F) → sProp 𝕄} (h : Lens T (tilesOf c M)) (hk : T (Function.update g s v) ⊢ WP c κ Post) :
    T g ⊢ WP c (stRow M s v κ) Post := by
  obtain ⟨R, h⟩ := h
  refine (h g).1.trans ?_
  have hk := (h _).2.trans hk
  unfold tilesOf at hk ⊢
  iintro ⟨⟨%X, %hX, H⟩, HR⟩
  have hk' : iprop(owns (c : Thread nD τ) M fullShare (VecWindow.put X ![s.val, 0, 0] S1x8x128.size (shapeCast S1x8x128 v shapeCasts_S8x128_S1x8x128)) ∗ R)
      ⊢ WP c κ Post := by
    refine BIBase.Entails.trans ?_ hk
    iintro ⟨H, HR⟩
    isplitl [H]
    · iexists _; isplitr
      swap; · iexact H
      ipureintro; rw [plane_put, hX]
    iexact HR
  iapply (load_owns (Has.left _ R) (store_owns (Lens.left _ R) hk'))
  isplitl [H]; · iexact H
  iexact HR

/-- Loading a list of tiles. -/
theorem ldRows_rule {Post : PUnit → sProp 𝕄} {n : ℕ} {M : Memref sig .tc .vmem (Planes n) .f32} {g : Fin n → Tile F}
    {T : (Fin n → Tile F) → sProp 𝕄} (h : Lens T (tilesOf c M)) (l : List (Fin n)) {κ : List (Fin n × Tile F) → P F}
    (hk : T g ⊢ WP c (κ (l.map fun s => (s, g s))) Post) : T g ⊢ WP c (ldRows M l κ) Post := by
  induction l generalizing κ with
  | nil => exact hk
  | cons s l ih => exact ldRow_rule h (ih hk)

/-- Storing a list of tiles. -/
theorem stRows_rule {Post : PUnit → sProp 𝕄} {n : ℕ} {M : Memref sig .tc .vmem (Planes n) .f32}
    {T : (Fin n → Tile F) → sProp 𝕄} (h : Lens T (tilesOf c M)) (l : List (Fin n × Tile F)) {g : Fin n → Tile F} {κ : P F}
    (hk : T (upd g l) ⊢ WP c κ Post) : T g ⊢ WP c (stRows M l κ) Post := by
  induction l generalizing g with
  | nil => exact hk
  | cons p l ih => exact stRow_rule h (ih hk)

/-- A loop whose rounds change the contents of one buffer. -/
theorem loop_rule {Post : PUnit → sProp 𝕄} {α β : Type} {T : β → sProp 𝕄} {phase : α → P F → P F} {step : β → α → β}
    (hp : ∀ (x : α) (b : β) (κ : P F), (T (step b x) ⊢ WP c κ Post) → T b ⊢ WP c (phase x κ) Post) (l : List α) {b : β} {κ : P F}
    (hk : T (l.foldl step b) ⊢ WP c κ Post) : T b ⊢ WP c (l.foldr phase κ) Post := by
  induction l generalizing b with
  | nil => exact hk
  | cons x l ih => exact hp x b _ (ih hk)

/-! ## The input blocks -/

/-- The contents of an upper and a lower block. -/
abbrev Blocks (F : FTy → Type) [FloatOps F] : Type := Fin 2 → Vec F S1x1x5x8x128 .f32

/-- Channel `ch` of an upper and a lower block, above one another. -/
def col (X : Blocks F) (ch : Fin 5) : FVec F S16x128 .f32 :=
  stack2 (VecWindow.window (X 0) ![0, 0, ch.val, 0, 0] S1x1x1x8x128.size (chan_inb ch))
    (VecWindow.window (X 1) ![0, 0, ch.val, 0, 0] S1x1x1x8x128.size (chan_inb ch))

/-- An upper and a lower block are held among the rest. -/
def HasCol (c : Dev nD) (T : sProp 𝕄) (M : Fin 2 → Memref sig .tc .vmem S1x1x5x8x128 .f32) (X : Blocks F) : Prop :=
  ∀ h, Has T (owns (c : Thread nD τ) (M h) fullShare (X h))

theorem ldCol_rule {Post : PUnit → sProp 𝕄} {T : sProp 𝕄} {M : Fin 2 → Memref sig .tc .vmem S1x1x5x8x128 .f32} {X : Blocks F} (h : HasCol c T M X)
    {ch : Fin 5} {κ : FVec F S16x128 .f32 → P F} (hk : T ⊢ WP c (κ (col X ch)) Post) : T ⊢ WP c (ldCol M ch κ) Post :=
  load_owns (h 0) (load_owns (h 1) hk)

theorem ldChans_rule {Post : PUnit → sProp 𝕄} {T : sProp 𝕄} {M : Fin 2 → Memref sig .tc .vmem S1x1x5x8x128 .f32} {X : Blocks F} (h : HasCol c T M X)
    (cs : List (Fin 5)) {κ : List (Fin 5 × FVec F S16x128 .f32) → P F}
    (hk : T ⊢ WP c (κ (cs.map fun ch => (ch, col X ch))) Post) : T ⊢ WP c (ldChans M cs κ) Post := by
  induction cs generalizing κ with
  | nil => exact hk
  | cons ch cs ih => exact ldCol_rule h (ih hk)

theorem ldShifts_rule {Post : PUnit → sProp 𝕄} {k : ℕ} {T : sProp 𝕄} {M : Fin k → Fin 2 → Memref sig .tc .vmem S1x1x5x8x128 .f32} {X : Fin k → Blocks F}
    (h : ∀ dj, HasCol c T (M dj) (X dj)) (cs : List (Fin 5)) (djs : List (Fin k)) {κ : List (Fin k × List (Fin 5 × FVec F S16x128 .f32)) → P F}
    (hk : T ⊢ WP c (κ (djs.map fun dj => (dj, cs.map fun ch => (ch, col (X dj) ch)))) Post) : T ⊢ WP c (ldShifts M cs djs κ) Post := by
  induction djs generalizing κ with
  | nil => exact hk
  | cons dj djs ih => exact ldChans_rule (h dj) cs (ih hk)

end Cert.KernelIdeal.Knn
-- ==== Proof.Model.lean ====
/-
  What the body computes, as plain functions of the input blocks' contents: the tiles of distances, the picked slots,
  the gathered rows, and the two results' blocks. No buffers here.
-/
module

public import proofs.«01_k».proof.Proof.Rules
public import Idealize.ShloMosaic.Lib.ValueLayout

@[expose] public section

noncomputable section

namespace Cert.KernelIdeal.Knn

open Idealize.ShloMosaic Idealize.ShloMosaic.ValueIdx Idealize.SL.Sem
open Cert.KernelIdeal.Gen

variable {F : FTy → Type} [FloatOps F]

/-! ## Storing lists of tiles -/

theorem upd_append {n : ℕ} (g : Fin n → Tile F) (l l' : List (Fin n × Tile F)) : upd g (l ++ l') = upd (upd g l) l' := by
  induction l generalizing g with
  | nil => rfl
  | cons p l ih => exact ih _

/-- A loop of stores is one list of stores. -/
theorem foldl_upd {n : ℕ} {α : Type} (f : α → List (Fin n × Tile F)) (l : List α) (g : Fin n → Tile F) :
    l.foldl (fun g x => upd g (f x)) g = upd g (l.flatMap f) := by
  induction l generalizing g with
  | nil => rfl
  | cons x l ih => rw [List.foldl_cons, ih, List.flatMap_cons, upd_append]

/-- A tile that is not stored is kept. -/
theorem upd_of_notMem {n : ℕ} {s : Fin n} : (l : List (Fin n × Tile F)) → (g : Fin n → Tile F) → s ∉ l.map Prod.fst → upd g l s = g s
  | [], _, _ => rfl
  | p :: l, g, h => by
    rw [List.map_cons, List.mem_cons, not_or] at h
    exact (upd_of_notMem l _ h.2).trans (Function.update_of_ne h.1 _ _)

/-- A tile that is stored at its value in `v`, and never at another, is that. -/
theorem upd_of_mem {n : ℕ} {v : Fin n → Tile F} {s : Fin n} : (l : List (Fin n × Tile F)) → (g : Fin n → Tile F) → (∀ p ∈ l, p.2 = v p.1) →
    (s ∈ l.map Prod.fst ∨ g s = v s) → upd g l s = v s
  | [], _, _, h => h.resolve_left (by simp)
  | p :: l, g, hv, h => by
    refine upd_of_mem l _ (fun q hq => hv q (List.mem_cons_of_mem _ hq)) ?_
    by_cases e : s = p.1
    · right; rw [e, Function.update_self]; exact hv p List.mem_cons_self
    · rw [List.map_cons, List.mem_cons] at h
      rcases h with (h | h) | h
      · exact absurd h e
      · exact .inl h
      · right; rw [Function.update_of_ne e]; exact h

/-! ## A whole buffer from its tiles -/

/-- The contents whose tiles are `g`. -/
def unplane {n : ℕ} (g : Fin n → Tile F) : Vec F (Planes n) .f32 := fun y => g (y 0) (ix2 (y 1) (y 2))

theorem plane_apply {n : ℕ} (X : Vec F (Planes n) .f32) (s : Fin n) (a : Fin 8) (b : Fin 128) : plane X s (ix2 a b) = X (ix3 s a b) := by
  unfold plane
  show VecWindow.window X _ _ _ (Shape.reshapeEquiv _ (ix2 a b)) = _
  rw [reshapeEquiv_ix2_1ab]
  show X _ = X _
  congr 1
  funext d
  match d with
  | 0 => exact Fin.ext (show s.val + 1 * 0 = s.val by omega)
  | 1 => exact Fin.ext (show 0 + 1 * a.val = a.val by omega)
  | 2 => exact Fin.ext (show 0 + 1 * b.val = b.val by omega)

theorem eq_unplane {n : ℕ} {X : Vec F (Planes n) .f32} {g : Fin n → Tile F} (h : plane X = g) : X = unplane g := by
  subst h
  funext y
  rw [eq_ix3 (n0 := n) (n1 := 8) (n2 := 128) y]
  exact (plane_apply X (y 0) (y 1) (y 2)).symm

/-! ## Distances and picks -/

/-- The distances of a window's slots from the centre. -/
def distV {k n : ℕ} (X : Fin k → Blocks F) (si sj : Fin n → Fin k) (row : Fin k → Fin 8) (center : Tile F) (s : Fin n) : Tile F :=
  absf (subf (rows (col (X (sj s)) 0) (row (si s))) center)

/-- The slots' values before pass `k`. -/
def seqD {n : ℕ} (slots : List (Fin n)) (v : Fin n → Tile F) : ℕ → Fin n → Tile F
  | 0 => v
  | k + 1 => fun s => masked (argmin (slots.map fun s => (s, seqD slots v k s))) (s, seqD slots v k s)

/-- The slots picked in pass `k`. -/
def pickA {n : ℕ} (slots : List (Fin n)) (v : Fin n → Tile F) (k : ℕ) : Tile F := argmin (slots.map fun s => (s, seqD slots v k s))

/-- The value of the slot that `ai` names, over all shifts, of channel `ch`. -/
def pickV {k n : ℕ} (slot : Fin k → Fin k → Fin n) (row : Fin k → Fin 8) (dis : Fin k → List (Fin k)) (X : Fin k → Blocks F) (ch : Fin 5) (ai : Tile F) :
    List (Fin k) → Tile F → Tile F
  | [], prev => prev
  | dj :: l, prev => pickV slot row dis X ch ai l (pickRows slot row ai dj (col (X dj) ch) (dis dj) prev)

theorem pick_eq {k n : ℕ} (slot : Fin k → Fin k → Fin n) (row : Fin k → Fin 8) (dis : Fin k → List (Fin k)) (X : Fin k → Blocks F) (ai : Tile F)
    {cs : List (Fin 5)} {p : ℕ} {ch : Fin 5} (h : cs[p]? = some ch) : (l : List (Fin k)) → (prev : Tile F) →
    pick slot row dis ai p (l.map fun dj => (dj, cs.map fun ch => (ch, col (X dj) ch))) prev = pickV slot row dis X ch ai l prev
  | [], _ => rfl
  | dj :: l, prev => by
    rw [List.map_cons, pick, pickV, ← pick_eq slot row dis X ai h l]
    congr 1
    simp only [List.getElem?_map, h, Option.map_some]

/-! ## The slots' rows and columns -/

def si5 (s : Fin 25) : Fin 5 := ⟨s.val / 5, by omega⟩
def sj5 (s : Fin 25) : Fin 5 := ⟨s.val % 5, by omega⟩
def si7 (s : Fin 49) : Fin 7 := ⟨s.val / 7, by omega⟩
def sj7 (s : Fin 49) : Fin 7 := ⟨s.val % 7, by omega⟩

/-- Channel and pass of a gathered row. -/
def rowC (r : Fin 48) : Fin 5 := ⟨r.val / 9 % 5, by omega⟩
def rowJ (r : Fin 48) : Fin 9 := ⟨r.val % 9, by omega⟩

theorem rowC_grow (c : Fin 5) (j : Fin 9) : rowC (grow c j) = c := Fin.ext (by show (c.val * 9 + j.val) / 9 % 5 = c.val; omega)
theorem rowJ_grow (c : Fin 5) (j : Fin 9) : rowJ (grow c j) = j := Fin.ext (by show (c.val * 9 + j.val) % 9 = j.val; omega)
theorem grow_lt (c : Fin 5) (j : Fin 9) : (grow c j).val < 45 := by show c.val * 9 + j.val < 45; omega

/-! ## The gathered rows and the results -/

/-- The contents of the input blocks of one grid point. -/
structure Ins (F : FTy → Type) [FloatOps F] where
  x : Fin 5 → Blocks F
  p : Fin 7 → Blocks F
  w : Vec F S32x48 .f32
  pw : Vec F S32x48 .f32

namespace Ins

variable (I : Ins F)

def center (ch : Fin 5) : Tile F := rows (col (I.x 2) ch) 3
def dist5V : Fin 25 → Tile F := distV I.x si5 sj5 row5 (I.center 0)
def dist7V : Fin 49 → Tile F := distV I.p si7 sj7 row7 (I.center 0)
def A5 (k : ℕ) : Tile F := pickA slots5 I.dist5V k
def A7 (k : ℕ) : Tile F := pickA slots7 I.dist7V k

/-- Neighbour `j` of channel `ch`, the first the centre itself. -/
def near5 (ch : Fin 5) (j : Fin 9) : Tile F :=
  if j = 0 then I.center ch else pickV slot5 row5 dis5 I.x ch (I.A5 (j.val - 1)) fin5 (splat 0#32)
def near7 (ch : Fin 5) (j : Fin 9) : Tile F := pickV slot7 row7 (fun _ => fin7) I.p ch (I.A7 j.val) fin7 (splat 0#32)

/-- The neighbours' coordinates around the centre, as radius and angles. -/
def polar7 (ch : Fin 5) (j : Fin 9) : Tile F :=
  let x := subf (I.near7 1 j) (I.center 1)
  let y := subf (I.near7 2 j) (I.center 2)
  let z := subf (I.near7 3 j) (I.center 3)
  if ch = 1 then radius x y z else if ch = 2 then angle x y z else if ch = 3 then angle2 x y z else I.near7 ch j

/-- The rows multiplied with the weights. -/
def giV (r : Fin 48) : Tile F := if r.val < 45 then I.near5 (rowC r) (rowJ r) else splat 0#32
def gpV (r : Fin 48) : Tile F := if r.val < 45 then I.near7 (rowC r) (rowJ r) else splat 0#32
def gqV (r : Fin 48) : Tile F := if r.val < 45 then I.polar7 (rowC r) (rowJ r) else splat 0#32

/-- The two results' blocks. -/
def outV : Vec F S1x32x8x128 .f32 := mm I.w (unplane I.giV)
def poutV : Vec F S1x32x8x128 .f32 := mm I.pw (unplane I.gqV)

theorem giV_grow (c : Fin 5) (j : Fin 9) : I.giV (grow c j) = I.near5 c j := by
  unfold giV; rw [if_pos (grow_lt c j), rowC_grow, rowJ_grow]
theorem gpV_grow (c : Fin 5) (j : Fin 9) : I.gpV (grow c j) = I.near7 c j := by
  unfold gpV; rw [if_pos (grow_lt c j), rowC_grow, rowJ_grow]
theorem gqV_grow (c : Fin 5) (j : Fin 9) : I.gqV (grow c j) = I.polar7 c j := by
  unfold gqV; rw [if_pos (grow_lt c j), rowC_grow, rowJ_grow]

end Ins

end Cert.KernelIdeal.Knn
-- ==== Proof.Phases.lean ====
/-
  Rules for the body's parts: distances, passes, gathers, the polar coordinates and the products.
-/
module

public import proofs.«01_k».proof.Proof.Model

@[expose] public section

noncomputable section

namespace Cert.KernelIdeal.Knn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable {c : Dev nD}

/-! ## Distances -/

/-- The distances of a window, for a list of shifts: afterwards every tile named in the list is that slot's distance. -/
theorem dist_rule {Post : PUnit → sProp 𝕄} {k n : ℕ} {M : Fin k → Fin 2 → Memref sig .tc .vmem S1x1x5x8x128 .f32}
    {D : Memref sig .tc .vmem (Planes n) .f32} {X : Fin k → Blocks F} {T : (Fin n → Tile F) → sProp 𝕄}
    {slot : Fin k → Fin k → Fin n} {si sj : Fin n → Fin k} {row : Fin k → Fin 8} {dis : Fin k → List (Fin k)} {center : Tile F}
    (hD : Lens T (tilesOf c D)) (hM : ∀ v dj, HasCol c (T v) (M dj) (X dj))
    (hi : ∀ di dj, si (slot di dj) = di) (hj : ∀ di dj, sj (slot di dj) = dj)
    (l : List (Fin k)) {g : Fin n → Tile F} {κ : P F}
    (hk : ∀ d, (∀ s ∈ l.flatMap fun dj => (dis dj).map fun di => slot di dj, d s = distV X si sj row center s) → T d ⊢ WP c κ Post) :
    T g ⊢ WP c (l.foldr (fun dj κ => ldCol (M dj) 0 fun sc =>
      stRows D ((dis dj).map fun di => (slot di dj, absf (subf (rows sc (row di)) center))) κ) κ) Post := by
  refine loop_rule (step := fun g dj => upd g ((dis dj).map fun di => (slot di dj, absf (subf (rows (col (X dj) 0) (row di)) center))))
    (fun dj g κ h => ldCol_rule (hM g dj) (stRows_rule hD _ h)) l ?_
  rw [foldl_upd]
  refine hk _ fun s hs => upd_of_mem _ _ ?_ (.inl ?_)
  · intro p hp
    obtain ⟨dj, _, hp⟩ := List.mem_flatMap.mp hp
    obtain ⟨di, _, rfl⟩ := List.mem_map.mp hp
    show _ = distV X si sj row center (slot di dj)
    unfold distV
    rw [hi, hj]
  · obtain ⟨dj, h1, hs⟩ := List.mem_flatMap.mp hs
    obtain ⟨di, h2, rfl⟩ := List.mem_map.mp hs
    exact List.mem_map.mpr ⟨_, List.mem_flatMap.mpr ⟨dj, h1, List.mem_map.mpr ⟨di, h2, rfl⟩⟩, rfl⟩

/-! ## Passes -/

/-- Before pass `k`: the slots' values, and the picks of the passes before. -/
def Before {n : ℕ} (slots : List (Fin n)) (v : Fin n → Tile F) (k : ℕ) (d : Fin n → Tile F) (a : Fin 9 → Tile F) : Prop :=
  (∀ s ∈ slots, d s = seqD slots v k s) ∧ ∀ i : Fin 9, i.val < k → a i = pickA slots v i.val

theorem before_pick {n : ℕ} {slots : List (Fin n)} {v d : Fin n → Tile F} {k : ℕ} {a : Fin 9 → Tile F} (h : Before slots v k d a)
    (j : Fin 9) (hj : j.val = k) : ∀ i : Fin 9, i.val < k + 1 → Function.update a j (argmin (slots.map fun s => (s, d s))) i = pickA slots v i.val := by
  intro i hi
  have e : (slots.map fun s => (s, d s)) = slots.map fun s => (s, seqD slots v k s) :=
    List.map_congr_left fun s hs => by rw [h.1 s hs]
  by_cases hij : i = j
  · subst hij; rw [Function.update_self, e, hj]; rfl
  · rw [Function.update_of_ne hij]
    exact h.2 i (by have : i.val ≠ j.val := fun e => hij (Fin.ext e); omega)

/-- A pass that is not the last. -/
theorem pass_rule {Post : PUnit → sProp 𝕄} {n : ℕ} {slots : List (Fin n)} {D : Memref sig .tc .vmem (Planes n) .f32} {A : Memref sig .tc .vmem (Planes 9) .f32}
    {T : (Fin n → Tile F) → (Fin 9 → Tile F) → sProp 𝕄} (hD : ∀ a, Lens (fun d => T d a) (tilesOf c D)) (hA : ∀ d, Lens (fun a => T d a) (tilesOf c A))
    {v d : Fin n → Tile F} {k : ℕ} {a : Fin 9 → Tile F} (h : Before slots v k d a) (j : Fin 9) (hj : j.val = k) {κ : P F}
    (hk : ∀ d' a', Before slots v (k + 1) d' a' → T d' a' ⊢ WP c κ Post) :
    T d a ⊢ WP c (pass slots D A j false κ) Post := by
  refine ldRows_rule (hD a) slots (stRow_rule (hA d) (stRows_rule (hD _) _ (hk _ _ ⟨fun s hs => ?_, before_pick h j hj⟩)))
  have e : (slots.map fun s => (s, d s)) = slots.map fun s => (s, seqD slots v k s) :=
    List.map_congr_left fun s hs => by rw [h.1 s hs]
  rw [e]
  refine upd_of_mem _ _ ?_ (.inl ?_)
  · intro p hp
    obtain ⟨q, hq, rfl⟩ := List.mem_map.mp hp
    obtain ⟨t, ht, rfl⟩ := List.mem_map.mp hq
    rfl
  · exact List.mem_map.mpr ⟨_, List.mem_map.mpr ⟨_, List.mem_map.mpr ⟨s, hs, rfl⟩, rfl⟩, rfl⟩

/-- The last pass. -/
theorem pass_last_rule {Post : PUnit → sProp 𝕄} {n : ℕ} {slots : List (Fin n)} {D : Memref sig .tc .vmem (Planes n) .f32} {A : Memref sig .tc .vmem (Planes 9) .f32}
    {T : (Fin n → Tile F) → (Fin 9 → Tile F) → sProp 𝕄} (hD : ∀ a, Lens (fun d => T d a) (tilesOf c D)) (hA : ∀ d, Lens (fun a => T d a) (tilesOf c A))
    {v d : Fin n → Tile F} {k : ℕ} {a : Fin 9 → Tile F} (h : Before slots v k d a) (j : Fin 9) (hj : j.val = k) {κ : P F}
    (hk : ∀ a', (∀ i : Fin 9, i.val < k + 1 → a' i = pickA slots v i.val) → T d a' ⊢ WP c κ Post) :
    T d a ⊢ WP c (pass slots D A j true κ) Post :=
  ldRows_rule (hD a) slots (stRow_rule (hA d) (hk _ (before_pick h j hj)))

/-! ## Gathers -/

/-- The picked values of some channels stored, each where `v` has it. -/
theorem gather_rule {Post : PUnit → sProp 𝕄} {k n : ℕ} {M : Fin k → Fin 2 → Memref sig .tc .vmem S1x1x5x8x128 .f32}
    {slot : Fin k → Fin k → Fin n} {row : Fin k → Fin 8} {dis : Fin k → List (Fin k)} {djs : List (Fin k)} {js : List (Fin 9)} {tgt : Fin 9 → Fin 9}
    {S : Memref sig .tc .vmem (Planes 48) .f32} {A : Memref sig .tc .vmem (Planes 9) .f32} {X : Fin k → Blocks F}
    {T : (Fin 9 → Tile F) → (Fin 48 → Tile F) → sProp 𝕄} (hA : ∀ g, Lens (fun a => T a g) (tilesOf c A)) (hS : ∀ a, Lens (fun g => T a g) (tilesOf c S))
    (hM : ∀ a g dj, HasCol c (T a g) (M dj) (X dj)) {v : Fin 48 → Tile F} {a : Fin 9 → Tile F} (cs : List (Fin 5))
    (hv : ∀ j ∈ js, ∀ ch ∈ cs, v (grow ch (tgt j)) = pickV slot row dis X ch (a j) djs (splat 0#32)) {g : Fin 48 → Tile F} {κ : P F}
    (hk : ∀ g', (∀ r, (r ∈ js.flatMap fun j => cs.map fun ch => grow ch (tgt j)) ∨ g r = v r → g' r = v r) → T a g' ⊢ WP c κ Post) :
    T a g ⊢ WP c (gather M slot row dis djs js tgt S A cs κ) Post := by
  refine ldRows_rule (hA g) js (ldShifts_rule (hM a g) cs djs (stRows_rule (hS a) _ (hk _ fun r hr => upd_of_mem _ _ ?_ (hr.imp_left ?_))))
  · intro p hp
    obtain ⟨q, hq, hp⟩ := List.mem_flatMap.mp hp
    obtain ⟨j, hj, rfl⟩ := List.mem_map.mp hq
    obtain ⟨cp, hcp, rfl⟩ := List.mem_map.mp hp
    have hc : cs[cp.2]? = some cp.1 := List.mk_mem_zipIdx_iff_getElem?.mp (by simpa using hcp)
    show pick slot row dis (a j) cp.2 _ _ = _
    rw [pick_eq slot row dis X (a j) hc]
    exact (hv j hj cp.1 (List.mem_of_getElem? hc)).symm
  · intro h
    obtain ⟨j, hj, h⟩ := List.mem_flatMap.mp h
    obtain ⟨ch, hch, rfl⟩ := List.mem_map.mp h
    obtain ⟨p, hp⟩ := List.mem_iff_getElem?.mp hch
    refine List.mem_map.mpr ⟨_, List.mem_flatMap.mpr ⟨_, List.mem_map.mpr ⟨j, hj, rfl⟩, List.mem_map.mpr ⟨(ch, p), ?_, rfl⟩⟩, rfl⟩
    exact List.mk_mem_zipIdx_iff_getElem?.mpr hp

/-- The centre's values of some channels stored. -/
theorem centres_rule {Post : PUnit → sProp 𝕄} {B : Bufs} {X : Blocks F} {T : (Fin 48 → Tile F) → sProp 𝕄} (hS : Lens T (tilesOf c B.gi))
    (hM : ∀ g, HasCol c (T g) (B.xb 2) X) {v : Fin 48 → Tile F} (cs : List (Fin 5)) (hv : ∀ ch ∈ cs, v (grow ch 0) = rows (col X ch) 3)
    {g : Fin 48 → Tile F} {κ : P F}
    (hk : ∀ g', (∀ r, (r ∈ cs.map fun ch => grow ch 0) ∨ g r = v r → g' r = v r) → T g' ⊢ WP c κ Post) :
    T g ⊢ WP c (centres B cs κ) Post := by
  refine loop_rule (step := fun g ch => upd g [(grow ch 0, rows (col X ch) 3)])
    (fun ch g κ h => ldCol_rule (hM g) (stRow_rule hS h)) cs ?_
  rw [foldl_upd]
  refine hk _ fun r hr => upd_of_mem _ _ ?_ (hr.imp_left ?_)
  · intro p hp
    obtain ⟨ch, hch, hp⟩ := List.mem_flatMap.mp hp
    rw [List.mem_singleton] at hp
    subst hp
    exact (hv ch hch).symm
  · intro h
    obtain ⟨ch, hch, rfl⟩ := List.mem_map.mp h
    exact List.mem_map.mpr ⟨_, List.mem_flatMap.mpr ⟨ch, hch, List.mem_singleton.mpr rfl⟩, rfl⟩

/-! ## Polar coordinates -/

/-- One neighbour's three rows replaced. -/
def polarStep (ax ay az : Tile F) (g : Fin 48 → Tile F) (j : Fin 9) : Fin 48 → Tile F :=
  upd g [(grow 1 j, radius (subf (g (grow 1 j)) ax) (subf (g (grow 2 j)) ay) (subf (g (grow 3 j)) az)),
    (grow 2 j, angle (subf (g (grow 1 j)) ax) (subf (g (grow 2 j)) ay) (subf (g (grow 3 j)) az)),
    (grow 3 j, angle2 (subf (g (grow 1 j)) ax) (subf (g (grow 2 j)) ay) (subf (g (grow 3 j)) az))]

theorem polar_rule {Post : PUnit → sProp 𝕄} {S : Memref sig .tc .vmem (Planes 48) .f32} {T : (Fin 48 → Tile F) → sProp 𝕄} (hS : Lens T (tilesOf c S))
    {ax ay az : Tile F} {j : Fin 9} {g : Fin 48 → Tile F} {κ : P F} (hk : T (polarStep ax ay az g j) ⊢ WP c κ Post) :
    T g ⊢ WP c (polar S ax ay az j κ) Post :=
  ldRow_rule hS (ldRow_rule hS (ldRow_rule hS (stRows_rule hS _ hk)))

theorem grow_inj {c c' : Fin 5} {j j' : Fin 9} (h : grow c j = grow c' j') : c = c' ∧ j = j' :=
  ⟨by rw [← rowC_grow c j, h, rowC_grow], by rw [← rowJ_grow c j, h, rowJ_grow]⟩

/-- The rows of the neighbours before `k` replaced, the others not. -/
def PolarTo (I : Ins F) (k : ℕ) (g : Fin 48 → Tile F) : Prop :=
  (∀ ch j, g (grow ch j) = if j.val < k then I.polar7 ch j else I.near7 ch j)

theorem polarStep_to {I : Ins F} {k : ℕ} {g : Fin 48 → Tile F} (h : PolarTo I k g) (j : Fin 9) (hj : j.val = k) :
    PolarTo I (k + 1) (polarStep (I.center 1) (I.center 2) (I.center 3) g j) := by
  intro ch j'
  have hn : ∀ ch, g (grow ch j) = I.near7 ch j := fun ch => by rw [h ch j, if_neg (by omega)]
  unfold polarStep
  rw [hn 1, hn 2, hn 3]
  by_cases e : j' = j
  · subst e
    rw [if_pos (by omega)]
    by_cases hc : ch = 1 ∨ ch = 2 ∨ ch = 3
    · refine upd_of_mem (v := fun r => I.polar7 (rowC r) j') _ _ ?_ (.inl ?_) |>.trans (by rw [rowC_grow])
      · intro p hp
        simp only [List.mem_cons, List.not_mem_nil, or_false] at hp
        rcases hp with rfl | rfl | rfl <;> simp only [rowC_grow] <;> rfl
      · rcases hc with rfl | rfl | rfl <;> simp
    · rw [upd_of_notMem, hn]
      · unfold Ins.polar7
        rw [if_neg (fun e => hc (.inl e)), if_neg (fun e => hc (.inr (.inl e))), if_neg (fun e => hc (.inr (.inr e)))]
      · intro hm
        simp only [List.map_cons, List.map_nil, List.mem_cons, List.not_mem_nil, or_false] at hm
        exact hc (hm.imp (fun e => (grow_inj e).1) (.imp (fun e => (grow_inj e).1) fun e => (grow_inj e).1))
  · rw [upd_of_notMem, h ch j']
    · have : j'.val ≠ j.val := fun e' => e (Fin.ext e')
      by_cases hlt : j'.val < k
      · rw [if_pos hlt, if_pos (by omega)]
      · rw [if_neg hlt, if_neg (by omega)]
    · intro hm
      simp only [List.map_cons, List.map_nil, List.mem_cons, List.not_mem_nil, or_false] at hm
      rcases hm with hm | hm | hm <;> exact e (grow_inj hm).2

/-- All neighbours' rows replaced. -/
theorem polars_rule {Post : PUnit → sProp 𝕄} {B : Bufs} {I : Ins F} {gi : Fin 48 → Tile F} {T : (Fin 48 → Tile F) → (Fin 48 → Tile F) → sProp 𝕄}
    (hG : ∀ g, Lens (fun gi => T gi g) (tilesOf c B.gi)) (hS : ∀ gi, Lens (fun g => T gi g) (tilesOf c B.gp))
    (hgi : ∀ ch, gi (grow ch 0) = I.center ch) {g : Fin 48 → Tile F} (hg : ∀ ch j, g (grow ch j) = I.near7 ch j) {κ : P F}
    (hk : ∀ g', (∀ ch j, g' (grow ch j) = I.polar7 ch j) → T gi g' ⊢ WP c κ Post) :
    T gi g ⊢ WP c (polars B κ) Post := by
  refine ldRow_rule (T := fun gi => T gi g) (hG g) (ldRow_rule (T := fun gi => T gi g) (hG g) (ldRow_rule (T := fun gi => T gi g) (hG g) ?_))
  rw [show (9 : Fin 48) = grow 1 0 from rfl, show (18 : Fin 48) = grow 2 0 from rfl, show (27 : Fin 48) = grow 3 0 from rfl, hgi, hgi, hgi]
  refine loop_rule (T := T gi) (step := polarStep (I.center 1) (I.center 2) (I.center 3)) (fun j g κ h => polar_rule (T := T gi) (hS gi) h) fin9 (hk _ ?_)
  have h0 : PolarTo I 0 g := fun ch j => by rw [if_neg (by omega), hg]
  have h9 := polarStep_to (polarStep_to (polarStep_to (polarStep_to (polarStep_to (polarStep_to (polarStep_to (polarStep_to (polarStep_to h0
    0 rfl) 1 rfl) 2 rfl) 3 rfl) 4 rfl) 5 rfl) 6 rfl) 7 rfl) 8 rfl
  exact fun ch j => (h9 ch j).trans (if_pos (by omega))

/-! ## Products -/

theorem window_full {s : Shape} (X : Vec F s .f32) {off : Fin s.rank → ℕ} (inb : ∀ a, off a + s.size a ≤ s.size a) :
    VecWindow.window X off s.size inb = X := by
  funext y
  show X ((Rect.unit off s.size inb).emb y) = X y
  rw [Rect.emb_unit_full]

theorem put_full {s : Shape} (X w : Vec F s .f32) {off : Fin s.rank → ℕ} (inb : ∀ a, off a + s.size a ≤ s.size a) :
    VecWindow.put X off s.size w = w := by
  rw [← window_full (VecWindow.put X off s.size w) inb]
  exact VecWindow.window_put_same X off s.size inb w

/-- Loading a whole scratch buffer. -/
theorem ldAll_rule {Post : PUnit → sProp 𝕄} {n : ℕ} {M : Memref sig .tc .vmem (Planes n) .f32} {off : Fin 3 → ℕ}
    {inb : ∀ a, off a + (Planes n).size a ≤ (Planes n).size a} {hl : M.view.LoadsAt (Rect.unit (s := Planes n) off (Planes n).size inb).toLoadRect}
    {κ : Vec F (Planes n) .f32 → P F} {g : Fin n → Tile F} {T : (Fin n → Tile F) → sProp 𝕄} (h : Lens T (tilesOf c M))
    (hk : T g ⊢ WP c (κ (unplane g)) Post) :
    T g ⊢ WP c (.op (.load M (Rect.unit (s := Planes n) off (Planes n).size inb).toLoadRect hl) κ) Post := by
  obtain ⟨R, h⟩ := h
  refine (h g).1.trans ?_
  have hk := (h g).2.trans hk
  unfold tilesOf at hk ⊢
  iintro ⟨⟨%X, %hX, H⟩, HR⟩
  have hk' : iprop(owns (c : Thread nD τ) M fullShare X ∗ R) ⊢ WP c (κ (VecWindow.window X off (Planes n).size inb)) Post := by
    rw [window_full, eq_unplane hX]
    refine BIBase.Entails.trans ?_ hk
    iintro ⟨H, HR⟩
    isplitl [H]
    · iexists (unplane g); isplitr; · ipureintro; rw [← eq_unplane hX]; exact hX
      iexact H
    iexact HR
  iapply (load_owns (Has.left _ R) hk')
  isplitl [H]; · iexact H
  iexact HR

/-- The padding rows zeroed and the product stored, the rows before being those of `v`. -/
theorem matmulOut_rule {Post : PUnit → sProp 𝕄} {S : Memref sig .tc .vmem (Planes 48) .f32} {W : Memref sig .tc .vmem S32x48 .f32}
    {O : Memref sig .tc .vmem S1x32x8x128 .f32} {T : (Fin 48 → Tile F) → Vec F S1x32x8x128 .f32 → sProp 𝕄} {w : Vec F S32x48 .f32}
    (hS : ∀ o, Lens (fun g => T g o) (tilesOf c S)) (hO : ∀ g, Lens (fun o => T g o) (fun o => owns (c : Thread nD τ) O fullShare o))
    (hW : ∀ g o, Has (T g o) (owns (c : Thread nD τ) W fullShare w)) {g v : Fin 48 → Tile F} {o : Vec F S1x32x8x128 .f32}
    (hv : ∀ ch j, g (grow ch j) = v (grow ch j)) (hz : v 45 = splat 0#32 ∧ v 46 = splat 0#32 ∧ v 47 = splat 0#32) {κ : P F}
    (hk : T v (mm w (unplane v)) ⊢ WP c κ Post) :
    T g o ⊢ WP c (matmulOut S W O κ) Post := by
  refine stRows_rule (hS o) _ ?_
  have e : upd g [((45 : Fin 48), (splat 0#32 : Tile F)), (46, splat 0#32), (47, splat 0#32)] = v := by
    funext r
    refine upd_of_mem _ _ ?_ ?_
    · intro p hp
      simp only [List.mem_cons, List.not_mem_nil, or_false] at hp
      rcases hp with rfl | rfl | rfl
      · exact hz.1.symm
      · exact hz.2.1.symm
      · exact hz.2.2.symm
    · by_cases hr : r.val < 45
      · right
        have e : r = grow (rowC r) (rowJ r) := Fin.ext (by show r.val = r.val / 9 % 5 * 9 + r.val % 9; omega)
        rw [e]; exact hv _ _
      · left
        have : r = 45 ∨ r = 46 ∨ r = 47 := by
          have h1 : r.val = 45 ∨ r.val = 46 ∨ r.val = 47 := by omega
          exact h1.imp (fun h => Fin.ext h) (.imp (fun h => Fin.ext h) fun h => Fin.ext h)
        rcases this with rfl | rfl | rfl <;> simp
  rw [e]
  exact ldAll_rule (hS o) (load_owns (hW v o) (load_owns (Lens.has (hO v) o) (store_owns (hO v) (by
    rw [put_full _ _ inb_S1x32x8x128_S1x32x8x128_0_0_0_0, window_full]; exact hk))))

end Cert.KernelIdeal.Knn
-- ==== Proof.BodyEq.lean ====
/-
  The printed body is the program `Knn.body`, loads and stores in the same order: one equation, by evaluation.
-/
module

public import proofs.«01_k».proof.Proof.Body

@[expose] public section

noncomputable section

namespace Cert.KernelIdeal.Knn

open Idealize.ShloMosaic Idealize.SL.Sem
open Cert.KernelIdeal.Gen

variable {F : FTy → Type} [FloatOps F]

set_option maxRecDepth 1000000 in
/-- The printed body is `body` on its buffers. -/
theorem body_eq (i : grid0.Coords) (arg3 : Memref sig .tc .vmem S1x1x5x8x128 .f32) (harg3 : arg3.IsWhole) (arg4 : Memref sig .tc .vmem S1x1x5x8x128 .f32) (harg4 : arg4.IsWhole) (arg5 : Memref sig .tc .vmem S1x1x5x8x128 .f32) (harg5 : arg5.IsWhole) (arg6 : Memref sig .tc .vmem S1x1x5x8x128 .f32) (harg6 : arg6.IsWhole) (arg7 : Memref sig .tc .vmem S1x1x5x8x128 .f32) (harg7 : arg7.IsWhole) (arg8 : Memref sig .tc .vmem S1x1x5x8x128 .f32) (harg8 : arg8.IsWhole) (arg9 : Memref sig .tc .vmem S1x1x5x8x128 .f32) (harg9 : arg9.IsWhole) (arg10 : Memref sig .tc .vmem S1x1x5x8x128 .f32) (harg10 : arg10.IsWhole) (arg11 : Memref sig .tc .vmem S1x1x5x8x128 .f32) (harg11 : arg11.IsWhole) (arg12 : Memref sig .tc .vmem S1x1x5x8x128 .f32) (harg12 : arg12.IsWhole) (arg13 : Memref sig .tc .vmem S1x1x5x8x128 .f32) (harg13 : arg13.IsWhole) (arg14 : Memref sig .tc .vmem S1x1x5x8x128 .f32) (harg14 : arg14.IsWhole) (arg15 : Memref sig .tc .vmem S1x1x5x8x128 .f32) (harg15 : arg15.IsWhole) (arg16 : Memref sig .tc .vmem S1x1x5x8x128 .f32) (harg16 : arg16.IsWhole) (arg17 : Memref sig .tc .vmem S1x1x5x8x128 .f32) (harg17 : arg17.IsWhole) (arg18 : Memref sig .tc .vmem S1x1x5x8x128 .f32) (harg18 : arg18.IsWhole) (arg19 : Memref sig .tc .vmem S1x1x5x8x128 .f32) (harg19 : arg19.IsWhole) (arg20 : Memref sig .tc .vmem S1x1x5x8x128 .f32) (harg20 : arg20.IsWhole) (arg21 : Memref sig .tc .vmem S1x1x5x8x128 .f32) (harg21 : arg21.IsWhole) (arg22 : Memref sig .tc .vmem S1x1x5x8x128 .f32) (harg22 : arg22.IsWhole) (arg23 : Memref sig .tc .vmem S1x1x5x8x128 .f32) (harg23 : arg23.IsWhole) (arg24 : Memref sig .tc .vmem S1x1x5x8x128 .f32) (harg24 : arg24.IsWhole) (arg25 : Memref sig .tc .vmem S1x1x5x8x128 .f32) (harg25 : arg25.IsWhole) (arg26 : Memref sig .tc .vmem S1x1x5x8x128 .f32) (harg26 : arg26.IsWhole) (arg27 : Memref sig .tc .vmem S32x48 .f32) (harg27 : arg27.IsWhole) (arg28 : Memref sig .tc .vmem S32x48 .f32) (harg28 : arg28.IsWhole) (arg29 : Memref sig .tc .vmem S1x32x8x128 .f32) (harg29 : arg29.IsWhole) (arg30 : Memref sig .tc .vmem S1x32x8x128 .f32) (harg30 : arg30.IsWhole) (arg31 : Memref sig .tc .vmem S48x8x128 .f32) (harg31 : arg31.IsWhole) (arg32 : Memref sig .tc .vmem S48x8x128 .f32) (harg32 : arg32.IsWhole) (arg33 : Memref sig .tc .vmem S25x8x128 .f32) (harg33 : arg33.IsWhole) (arg34 : Memref sig .tc .vmem S49x8x128 .f32) (harg34 : arg34.IsWhole) (arg35 : Memref sig .tc .vmem S9x8x128 .f32) (harg35 : arg35.IsWhole) (arg36 : Memref sig .tc .vmem S9x8x128 .f32) (harg36 : arg36.IsWhole) :
    cc0__body i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 (F := F)
      = body ⟨![![arg3, arg4], ![arg5, arg6], ![arg7, arg8], ![arg9, arg10], ![arg11, arg12]], ![![arg13, arg14], ![arg15, arg16], ![arg17, arg18], ![arg19, arg20], ![arg21, arg22], ![arg23, arg24], ![arg25, arg26]], arg27, arg28, arg29, arg30, arg31, arg32, arg33, arg34, arg35, arg36⟩ := by
  sl_kernel_rfl

end Cert.KernelIdeal.Knn
-- ==== Proof.Run.lean ====
/-
  The run of the body: from any contents of the scratch buffers and of the results' blocks, the results' blocks end at
  `Ins.outV` and `Ins.poutV`.
-/
module

public import proofs.«01_k».proof.Proof.Phases
public import proofs.«01_k».proof.Proof.BodyEq

@[expose] public section

noncomputable section

namespace Cert.KernelIdeal.Knn

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The input blocks and weights are held. -/
def inputs (c : Dev nD) (B : Bufs) (I : Ins F) : List (sProp 𝕄) :=
  [owns (c : Thread nD τ) (B.xb 0 0) fullShare (I.x 0 0), owns (c : Thread nD τ) (B.xb 0 1) fullShare (I.x 0 1),
    owns (c : Thread nD τ) (B.xb 1 0) fullShare (I.x 1 0), owns (c : Thread nD τ) (B.xb 1 1) fullShare (I.x 1 1),
    owns (c : Thread nD τ) (B.xb 2 0) fullShare (I.x 2 0), owns (c : Thread nD τ) (B.xb 2 1) fullShare (I.x 2 1),
    owns (c : Thread nD τ) (B.xb 3 0) fullShare (I.x 3 0), owns (c : Thread nD τ) (B.xb 3 1) fullShare (I.x 3 1),
    owns (c : Thread nD τ) (B.xb 4 0) fullShare (I.x 4 0), owns (c : Thread nD τ) (B.xb 4 1) fullShare (I.x 4 1),
    owns (c : Thread nD τ) (B.pb 0 0) fullShare (I.p 0 0), owns (c : Thread nD τ) (B.pb 0 1) fullShare (I.p 0 1),
    owns (c : Thread nD τ) (B.pb 1 0) fullShare (I.p 1 0), owns (c : Thread nD τ) (B.pb 1 1) fullShare (I.p 1 1),
    owns (c : Thread nD τ) (B.pb 2 0) fullShare (I.p 2 0), owns (c : Thread nD τ) (B.pb 2 1) fullShare (I.p 2 1),
    owns (c : Thread nD τ) (B.pb 3 0) fullShare (I.p 3 0), owns (c : Thread nD τ) (B.pb 3 1) fullShare (I.p 3 1),
    owns (c : Thread nD τ) (B.pb 4 0) fullShare (I.p 4 0), owns (c : Thread nD τ) (B.pb 4 1) fullShare (I.p 4 1),
    owns (c : Thread nD τ) (B.pb 5 0) fullShare (I.p 5 0), owns (c : Thread nD τ) (B.pb 5 1) fullShare (I.p 5 1),
    owns (c : Thread nD τ) (B.pb 6 0) fullShare (I.p 6 0), owns (c : Thread nD τ) (B.pb 6 1) fullShare (I.p 6 1),
    owns (c : Thread nD τ) B.w fullShare I.w, owns (c : Thread nD τ) B.pw fullShare I.pw]

theorem mem_inputs_x (c : Dev nD) (B : Bufs) (I : Ins F) (dj : Fin 5) (h : Fin 2) :
    owns (c : Thread nD τ) (B.xb dj h) fullShare (I.x dj h) ∈ inputs c B I := by
  unfold inputs
  fin_cases dj <;> fin_cases h <;> simp only [List.mem_cons, true_or, or_true, Fin.zero_eta, Fin.mk_one, Fin.reduceFinMk]

theorem mem_inputs_p (c : Dev nD) (B : Bufs) (I : Ins F) (dj : Fin 7) (h : Fin 2) :
    owns (c : Thread nD τ) (B.pb dj h) fullShare (I.p dj h) ∈ inputs c B I := by
  unfold inputs
  fin_cases dj <;> fin_cases h <;> simp only [List.mem_cons, true_or, or_true, Fin.zero_eta, Fin.mk_one, Fin.reduceFinMk]

/-- Everything the body works on, and `R`. -/
def St (c : Dev nD) (B : Bufs) (I : Ins F) (R : sProp 𝕄) (d1 : Fin 25 → Tile F) (d2 : Fin 49 → Tile F) (a1 a2 : Fin 9 → Tile F) (gi gp : Fin 48 → Tile F)
    (o po : Vec F S1x32x8x128 .f32) : sProp 𝕄 :=
  iprop(tilesOf c B.d1 d1 ∗ tilesOf c B.d2 d2 ∗ tilesOf c B.a1 a1 ∗ tilesOf c B.a2 a2 ∗ tilesOf c B.gi gi ∗ tilesOf c B.gp gp
    ∗ owns (c : Thread nD τ) B.o fullShare o ∗ owns (c : Thread nD τ) B.po fullShare po ∗ sepL (inputs c B I) R)

section Parts

variable {c : Dev nD} {B : Bufs} {I : Ins F} {d1 : Fin 25 → Tile F} {d2 : Fin 49 → Tile F} {a1 a2 : Fin 9 → Tile F} {gi gp : Fin 48 → Tile F}
  {o po : Vec F S1x32x8x128 .f32}

theorem St.has_d1 {R : sProp 𝕄} : Lens (fun d1 => St c B I R d1 d2 a1 a2 gi gp o po) (tilesOf c B.d1) := .left _ _
theorem St.has_d2 {R : sProp 𝕄} : Lens (fun d2 => St c B I R d1 d2 a1 a2 gi gp o po) (tilesOf c B.d2) := .right _ (.left _ _)
theorem St.has_a1 {R : sProp 𝕄} : Lens (fun a1 => St c B I R d1 d2 a1 a2 gi gp o po) (tilesOf c B.a1) := .right _ (.right _ (.left _ _))
theorem St.has_a2 {R : sProp 𝕄} : Lens (fun a2 => St c B I R d1 d2 a1 a2 gi gp o po) (tilesOf c B.a2) := .right _ (.right _ (.right _ (.left _ _)))
theorem St.has_gi {R : sProp 𝕄} : Lens (fun gi => St c B I R d1 d2 a1 a2 gi gp o po) (tilesOf c B.gi) := .right _ (.right _ (.right _ (.right _ (.left _ _))))
theorem St.has_gp {R : sProp 𝕄} : Lens (fun gp => St c B I R d1 d2 a1 a2 gi gp o po) (tilesOf c B.gp) :=
  .right _ (.right _ (.right _ (.right _ (.right _ (.left _ _)))))
theorem St.has_o {R : sProp 𝕄} : Lens (fun o => St c B I R d1 d2 a1 a2 gi gp o po) (fun o => owns (c : Thread nD τ) B.o fullShare o) :=
  .right _ (.right _ (.right _ (.right _ (.right _ (.right _ (.left _ _))))))
theorem St.has_po {R : sProp 𝕄} : Lens (fun po => St c B I R d1 d2 a1 a2 gi gp o po) (fun po => owns (c : Thread nD τ) B.po fullShare po) :=
  .right _ (.right _ (.right _ (.right _ (.right _ (.right _ (.right _ (.left _ _)))))))

theorem St.has_input {R : sProp 𝕄} {A : sProp 𝕄} (h : A ∈ inputs c B I) : Has (St c B I R d1 d2 a1 a2 gi gp o po) A :=
  .right _ (.right _ (.right _ (.right _ (.right _ (.right _ (.right _ (.right _ (.of_mem R h))))))))
theorem St.has_x {R : sProp 𝕄} (dj : Fin 5) : HasCol c (St c B I R d1 d2 a1 a2 gi gp o po) (B.xb dj) (I.x dj) := fun h => St.has_input (mem_inputs_x c B I dj h)
theorem St.has_p {R : sProp 𝕄} (dj : Fin 7) : HasCol c (St c B I R d1 d2 a1 a2 gi gp o po) (B.pb dj) (I.p dj) := fun h => St.has_input (mem_inputs_p c B I dj h)
theorem St.has_w {R : sProp 𝕄} : Has (St c B I R d1 d2 a1 a2 gi gp o po) (owns (c : Thread nD τ) B.w fullShare I.w) := St.has_input (by simp [inputs])
theorem St.has_pw {R : sProp 𝕄} : Has (St c B I R d1 d2 a1 a2 gi gp o po) (owns (c : Thread nD τ) B.pw fullShare I.pw) := St.has_input (by simp [inputs])

end Parts

variable {c : Dev nD} {B : Bufs} {I : Ins F}

/-- All passes over both windows. -/
theorem passes_rule {R : sProp 𝕄} {Post : PUnit → sProp 𝕄} {gi gp : Fin 48 → Tile F} {o po : Vec F S1x32x8x128 .f32}
    {d1 : Fin 25 → Tile F} {d2 : Fin 49 → Tile F} {a1 a2 : Fin 9 → Tile F} (h1 : ∀ s ∈ slots5, d1 s = I.dist5V s) (h2 : ∀ s ∈ slots7, d2 s = I.dist7V s) {κ : P F}
    (hk : ∀ d1 d2 a1 a2, (∀ i : Fin 9, i.val < 8 → a1 i = I.A5 i.val) → (∀ i : Fin 9, a2 i = I.A7 i.val) → St c B I R d1 d2 a1 a2 gi gp o po ⊢ WP c κ Post) :
    St c B I R d1 d2 a1 a2 gi gp o po ⊢ WP c (passes B κ) Post := by
  have p5 : ∀ {d1 : Fin 25 → Tile F} {d2 : Fin 49 → Tile F} {a1 a2 : Fin 9 → Tile F} {k : ℕ} (_ : Before slots5 I.dist5V k d1 a1) (j : Fin 9) (_ : j.val = k) {κ : P F},
      (∀ d1 a1, Before slots5 I.dist5V (k + 1) d1 a1 → St c B I R d1 d2 a1 a2 gi gp o po ⊢ WP c κ Post) →
      St c B I R d1 d2 a1 a2 gi gp o po ⊢ WP c (pass slots5 B.d1 B.a1 j false κ) Post := by
    intro d1 d2 a1 a2 k h j hj κ hk
    exact pass_rule (T := fun d1 a1 => St c B I R d1 d2 a1 a2 gi gp o po) (fun a1 => St.has_d1) (fun d1 => St.has_a1) h j hj hk
  have p7 : ∀ {d1 : Fin 25 → Tile F} {d2 : Fin 49 → Tile F} {a1 a2 : Fin 9 → Tile F} {k : ℕ} (_ : Before slots7 I.dist7V k d2 a2) (j : Fin 9) (_ : j.val = k) {κ : P F},
      (∀ d2 a2, Before slots7 I.dist7V (k + 1) d2 a2 → St c B I R d1 d2 a1 a2 gi gp o po ⊢ WP c κ Post) →
      St c B I R d1 d2 a1 a2 gi gp o po ⊢ WP c (pass slots7 B.d2 B.a2 j false κ) Post := by
    intro d1 d2 a1 a2 k h j hj κ hk
    exact pass_rule (T := fun d2 a2 => St c B I R d1 d2 a1 a2 gi gp o po) (fun a2 => St.has_d2) (fun d2 => St.has_a2) h j hj hk
  have both : ∀ {d1 : Fin 25 → Tile F} {d2 : Fin 49 → Tile F} {a1 a2 : Fin 9 → Tile F} {k : ℕ} (_ : Before slots5 I.dist5V k d1 a1) (_ : Before slots7 I.dist7V k d2 a2)
      (j : Fin 9) (_ : j.val = k) {κ : P F},
      (∀ d1 d2 a1 a2, Before slots5 I.dist5V (k + 1) d1 a1 → Before slots7 I.dist7V (k + 1) d2 a2 → St c B I R d1 d2 a1 a2 gi gp o po ⊢ WP c κ Post) →
      St c B I R d1 d2 a1 a2 gi gp o po ⊢ WP c (pass slots5 B.d1 B.a1 j false (pass slots7 B.d2 B.a2 j false κ)) Post :=
    fun h h' j hj _ hk => p5 h j hj fun _ _ h => p7 h' j hj fun _ _ h' => hk _ _ _ _ h h'
  refine both (k := 0) ⟨h1, fun i hi => absurd hi (by omega)⟩ ⟨h2, fun i hi => absurd hi (by omega)⟩ 0 rfl fun _ _ _ _ h h' => ?_
  refine both h h' 1 rfl fun _ _ _ _ h h' => both h h' 2 rfl fun _ _ _ _ h h' => both h h' 3 rfl fun _ _ _ _ h h' => both h h' 4 rfl fun _ _ _ _ h h' => ?_
  refine both h h' 5 rfl fun _ _ _ _ h h' => both h h' 6 rfl fun d1 d2 a1 a2 h h' => ?_
  refine pass_last_rule (T := fun d1 a1 => St c B I R d1 d2 a1 a2 gi gp o po) (fun a1 => St.has_d1) (fun d1 => St.has_a1)
    h 7 rfl fun a1 hA => p7 h' 7 rfl fun d2 a2 h' => ?_
  exact pass_last_rule (T := fun d2 a2 => St c B I R d1 d2 a1 a2 gi gp o po) (fun a2 => St.has_d2) (fun d2 => St.has_a2)
    h' 8 rfl fun a2 hA' => hk _ _ _ _ hA fun i => hA' i (by omega)

/-- Rows of channels `cs`. -/
def Have (v g : Fin 48 → Tile F) (cs : List (Fin 5)) : Prop := ∀ ch ∈ cs, ∀ j, g (grow ch j) = v (grow ch j)

theorem Have.append {v g : Fin 48 → Tile F} {cs cs' : List (Fin 5)} (h : Have v g cs) (h' : Have v g cs') : Have v g (cs ++ cs') := fun ch hc =>
  (List.mem_append.mp hc).elim (h ch) (h' ch)

/-- The centre and the neighbours of the 5×5 window, some channels. -/
theorem gather5_rule {R : sProp 𝕄} {Post : PUnit → sProp 𝕄} {d1 : Fin 25 → Tile F} {d2 : Fin 49 → Tile F} {a1 a2 : Fin 9 → Tile F} {gi gp : Fin 48 → Tile F} {o po : Vec F S1x32x8x128 .f32}
    (hA : ∀ i : Fin 9, i.val < 8 → a1 i = I.A5 i.val) {old : List (Fin 5)} (ho : Have I.giV gi old) (cs : List (Fin 5)) {κ : P F}
    (hk : ∀ gi, Have I.giV gi (old ++ cs) → St c B I R d1 d2 a1 a2 gi gp o po ⊢ WP c κ Post) :
    St c B I R d1 d2 a1 a2 gi gp o po ⊢ WP c (gather5 B cs κ) Post := by
  refine centres_rule (T := fun gi => St c B I R d1 d2 a1 a2 gi gp o po) (St.has_gi) (fun gi => St.has_x 2) (v := I.giV) cs
    (fun ch _ => (I.giV_grow ch 0).trans (if_pos rfl)) fun g' hg' => ?_
  refine gather_rule (T := fun a1 gi => St c B I R d1 d2 a1 a2 gi gp o po) (fun gi => St.has_a1) (fun a1 => St.has_gi)
    (fun a1 gi dj => St.has_x dj) (v := I.giV) cs ?_ fun g'' hg'' => hk g'' (Have.append (fun ch hc j => ?_) fun ch hc j => ?_)
  · intro j hj ch _
    rw [I.giV_grow]
    revert j
    unfold Ins.near5
    simp only [fin8, List.forall_mem_cons, List.not_mem_nil, false_imp_iff, forall_const, and_true]
    refine ⟨?_, ?_, ?_, ?_, ?_, ?_, ?_, ?_⟩ <;> (rw [hA _ (by decide)]; rfl)
  · exact hg'' _ (.inr (hg' _ (.inr (ho ch hc j))))
  · refine hg'' _ ?_
    by_cases hj : j = 0
    · subst hj
      exact .inr (hg' _ (.inl (List.mem_map.mpr ⟨ch, hc, rfl⟩)))
    · refine .inl (List.mem_flatMap.mpr ⟨j - 1, ?_, List.mem_map.mpr ⟨ch, hc, ?_⟩⟩)
      · revert j; decide
      · congr 1; clear hj hc hg'' hg' ho; revert j; decide

/-- The neighbours of the 7×7 window, some channels. -/
theorem gather7_rule {R : sProp 𝕄} {Post : PUnit → sProp 𝕄} {d1 : Fin 25 → Tile F} {d2 : Fin 49 → Tile F} {a1 a2 : Fin 9 → Tile F} {gi gp : Fin 48 → Tile F} {o po : Vec F S1x32x8x128 .f32}
    (hA : ∀ i : Fin 9, a2 i = I.A7 i.val) {old : List (Fin 5)} (ho : Have I.gpV gp old) (cs : List (Fin 5)) {κ : P F}
    (hk : ∀ gp, Have I.gpV gp (old ++ cs) → St c B I R d1 d2 a1 a2 gi gp o po ⊢ WP c κ Post) :
    St c B I R d1 d2 a1 a2 gi gp o po ⊢ WP c (gather7 B cs κ) Post := by
  refine gather_rule (T := fun a2 gp => St c B I R d1 d2 a1 a2 gi gp o po) (fun gp => St.has_a2) (fun a2 => St.has_gp)
    (fun a2 gp dj => St.has_p dj) (v := I.gpV) cs ?_ fun g'' hg'' => hk g'' (Have.append (fun ch hc j => ?_) fun ch hc j => ?_)
  · intro j _ ch _
    rw [show I.gpV (grow ch (id j)) = I.near7 ch j from I.gpV_grow ch j, hA]; rfl
  · exact hg'' _ (.inr (ho ch hc j))
  · exact hg'' _ (.inl (List.mem_flatMap.mpr ⟨j, by revert j; decide, List.mem_map.mpr ⟨ch, hc, rfl⟩⟩))

theorem all_chans (ch : Fin 5) : ch ∈ (([] : List (Fin 5)) ++ [0, 1, 2]) ++ [3, 4] := by revert ch; decide

/-- The whole body. -/
theorem body_rule {R : sProp 𝕄} {Post : PUnit → sProp 𝕄} {d1 : Fin 25 → Tile F} {d2 : Fin 49 → Tile F} {a1 a2 : Fin 9 → Tile F} {gi gp : Fin 48 → Tile F} {o po : Vec F S1x32x8x128 .f32}
    (hk : ∀ d1 d2 a1 a2 gi gp, St c B I R d1 d2 a1 a2 gi gp I.outV I.poutV ⊢ Post ⟨⟩) :
    St c B I R d1 d2 a1 a2 gi gp o po ⊢ WP c (body B) Post := by
  refine ldCol_rule (St.has_x 2) ?_
  refine dist_rule (T := fun d1 => St c B I R d1 d2 a1 a2 gi gp o po) (St.has_d1) (fun _ dj => St.has_x dj)
    (si := si5) (sj := sj5) (by decide) (by decide) fin5 fun d1 h1 => ?_
  refine dist_rule (T := fun d2 => St c B I R d1 d2 a1 a2 gi gp o po) (St.has_d2) (fun _ dj => St.has_p dj)
    (si := si7) (sj := sj7) (dis := fun _ => fin7) (by decide) (by decide) fin7 fun d2 h2 => ?_
  refine passes_rule (fun s hs => h1 s ((by decide : ∀ s ∈ slots5, s ∈ fin5.flatMap fun dj => (dis5 dj).map fun di => slot5 di dj) s hs))
    (fun s hs => h2 s ((by decide : ∀ s ∈ slots7, s ∈ fin7.flatMap fun dj => fin7.map fun di => slot7 di dj) s hs)) fun d1 d2 a1 a2 hA1 hA2 => ?_
  refine gather5_rule hA1 (old := []) (fun ch hc => absurd hc List.not_mem_nil) _ fun gi hg => gather5_rule hA1 hg _ fun gi hg => ?_
  refine matmulOut_rule (T := fun gi o => St c B I R d1 d2 a1 a2 gi gp o po) (fun _ => St.has_gi) (fun _ => St.has_o)
    (fun _ _ => St.has_w) (v := I.giV) (fun ch j => hg ch (all_chans ch) j) ⟨rfl, rfl, rfl⟩ ?_
  refine gather7_rule hA2 (old := []) (fun ch hc => absurd hc List.not_mem_nil) _ fun gp hp => gather7_rule hA2 hp _ fun gp hp => ?_
  refine polars_rule (I := I) (T := fun gi gp => St c B I R d1 d2 a1 a2 gi gp I.outV po) (fun _ => St.has_gi) (fun _ => St.has_gp)
    (fun ch => (I.giV_grow ch 0).trans (if_pos rfl)) (fun ch j => (hp ch (all_chans ch) j).trans (I.gpV_grow ch j)) fun gp hq => ?_
  refine matmulOut_rule (T := fun gp po => St c B I R d1 d2 a1 a2 I.giV gp I.outV po) (fun _ => St.has_gp) (fun _ => St.has_po)
    (fun _ _ => St.has_pw) (v := I.gqV) (fun ch j => (hq ch j).trans (I.gqV_grow ch j).symm) ⟨rfl, rfl, rfl⟩ ?_
  show _ ⊢ wp frame _ _ _ _
  rw [wp_ret]
  refine (hk _ _ _ _ _ _).trans ?_
  iintro H; imodintro; iexact H

end Cert.KernelIdeal.Knn
-- ==== Proof.Data.lean ====
/-
  The pipeline's proof data: what every window's buffer holds before and after the body at each grid point.
-/
module

public import proofs.«01_k».proof.Proof.Run
public import proofs.«01_k».proof.Proof.Gen.KernelIdeal.Frame.Runs
public import Idealize.ShloMosaic.Lib.Claim

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers of grid point `t`. -/
def bufs (t : Fin cfg0.N) : Bufs :=
  ⟨![![ms0_0 t, ms0_1 t], ![ms0_2 t, ms0_3 t], ![ms0_4 t, ms0_5 t], ![ms0_6 t, ms0_7 t], ![ms0_8 t, ms0_9 t]], ![![ms0_10 t, ms0_11 t], ![ms0_12 t, ms0_13 t], ![ms0_14 t, ms0_15 t], ![ms0_16 t, ms0_17 t], ![ms0_18 t, ms0_19 t], ![ms0_20 t, ms0_21 t], ![ms0_22 t, ms0_23 t]],
    ms0_24 t, ms0_25 t, ms0_26 t, ms0_27 t, scM0_0, scM0_1, scM0_2, scM0_3, scM0_4, scM0_5⟩

/-- The input blocks of grid point `t`. -/
def ins (c : Dev nD) (t : Fin cfg0.N) : Ins F :=
  ⟨![![iblk m c 0 t, iblk m c 1 t], ![iblk m c 2 t, iblk m c 3 t], ![iblk m c 4 t, iblk m c 5 t], ![iblk m c 6 t, iblk m c 7 t], ![iblk m c 8 t, iblk m c 9 t]], ![![iblk m c 10 t, iblk m c 11 t], ![iblk m c 12 t, iblk m c 13 t], ![iblk m c 14 t, iblk m c 15 t], ![iblk m c 16 t, iblk m c 17 t], ![iblk m c 18 t, iblk m c 19 t], ![iblk m c 20 t, iblk m c 21 t], ![iblk m c 22 t, iblk m c 23 t]],
    iblk m c 24 t, iblk m c 25 t⟩

/-- What the results' blocks hold after the body at point `t`. -/
def outs (c : Dev nD) (t : Fin cfg0.N) : Vec F S1x32x8x128 .f32 × Vec F S1x32x8x128 .f32 := ((ins m c t).outV, (ins m c t).poutV)

/-- The proof data: the arrays as the launch finds them; after the body at point `t` each input's buffer still at its block,
    and the two results' at the values of the model. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => (outs m c t).1
    | ⟨27, _⟩ => (outs m c t).2
    | ⟨_ + 28, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = (outs m c t).1 := by dsimp only [dats]
theorem after27 (c : Dev nD) (t : Fin cfg0.N) : (dats m 0 c).after 27 t = (outs m c t).2 := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = iblk m c 3 t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d
theorem before6 (c : Dev nD) (t : Fin cfg0.N) (d) : (dats m 0 c).before 6 t d = iblk m c 6 t := before0_6_of m (dats m 0 c) (A_eq m c 6) (after6 m c) t d
theorem before7 (c : Dev nD) (t : Fin cfg0.N) (d) : (dats m 0 c).before 7 t d = iblk m c 7 t := before0_7_of m (dats m 0 c) (A_eq m c 7) (after7 m c) t d
theorem before8 (c : Dev nD) (t : Fin cfg0.N) (d) : (dats m 0 c).before 8 t d = iblk m c 8 t := before0_8_of m (dats m 0 c) (A_eq m c 8) (after8 m c) t d
theorem before9 (c : Dev nD) (t : Fin cfg0.N) (d) : (dats m 0 c).before 9 t d = iblk m c 9 t := before0_9_of m (dats m 0 c) (A_eq m c 9) (after9 m c) t d
theorem before10 (c : Dev nD) (t : Fin cfg0.N) (d) : (dats m 0 c).before 10 t d = iblk m c 10 t := before0_10_of m (dats m 0 c) (A_eq m c 10) (after10 m c) t d
theorem before11 (c : Dev nD) (t : Fin cfg0.N) (d) : (dats m 0 c).before 11 t d = iblk m c 11 t := before0_11_of m (dats m 0 c) (A_eq m c 11) (after11 m c) t d
theorem before12 (c : Dev nD) (t : Fin cfg0.N) (d) : (dats m 0 c).before 12 t d = iblk m c 12 t := before0_12_of m (dats m 0 c) (A_eq m c 12) (after12 m c) t d
theorem before13 (c : Dev nD) (t : Fin cfg0.N) (d) : (dats m 0 c).before 13 t d = iblk m c 13 t := before0_13_of m (dats m 0 c) (A_eq m c 13) (after13 m c) t d
theorem before14 (c : Dev nD) (t : Fin cfg0.N) (d) : (dats m 0 c).before 14 t d = iblk m c 14 t := before0_14_of m (dats m 0 c) (A_eq m c 14) (after14 m c) t d
theorem before15 (c : Dev nD) (t : Fin cfg0.N) (d) : (dats m 0 c).before 15 t d = iblk m c 15 t := before0_15_of m (dats m 0 c) (A_eq m c 15) (after15 m c) t d
theorem before16 (c : Dev nD) (t : Fin cfg0.N) (d) : (dats m 0 c).before 16 t d = iblk m c 16 t := before0_16_of m (dats m 0 c) (A_eq m c 16) (after16 m c) t d
theorem before17 (c : Dev nD) (t : Fin cfg0.N) (d) : (dats m 0 c).before 17 t d = iblk m c 17 t := before0_17_of m (dats m 0 c) (A_eq m c 17) (after17 m c) t d
theorem before18 (c : Dev nD) (t : Fin cfg0.N) (d) : (dats m 0 c).before 18 t d = iblk m c 18 t := before0_18_of m (dats m 0 c) (A_eq m c 18) (after18 m c) t d
theorem before19 (c : Dev nD) (t : Fin cfg0.N) (d) : (dats m 0 c).before 19 t d = iblk m c 19 t := before0_19_of m (dats m 0 c) (A_eq m c 19) (after19 m c) t d
theorem before20 (c : Dev nD) (t : Fin cfg0.N) (d) : (dats m 0 c).before 20 t d = iblk m c 20 t := before0_20_of m (dats m 0 c) (A_eq m c 20) (after20 m c) t d
theorem before21 (c : Dev nD) (t : Fin cfg0.N) (d) : (dats m 0 c).before 21 t d = iblk m c 21 t := before0_21_of m (dats m 0 c) (A_eq m c 21) (after21 m c) t d
theorem before22 (c : Dev nD) (t : Fin cfg0.N) (d) : (dats m 0 c).before 22 t d = iblk m c 22 t := before0_22_of m (dats m 0 c) (A_eq m c 22) (after22 m c) t d
theorem before23 (c : Dev nD) (t : Fin cfg0.N) (d) : (dats m 0 c).before 23 t d = iblk m c 23 t := before0_23_of m (dats m 0 c) (A_eq m c 23) (after23 m c) t d
theorem before24 (c : Dev nD) (t : Fin cfg0.N) (d) : (dats m 0 c).before 24 t d = iblk m c 24 t := before0_24_of m (dats m 0 c) (A_eq m c 24) (after24 m c) t d
theorem before25 (c : Dev nD) (t : Fin cfg0.N) (d) : (dats m 0 c).before 25 t d = iblk m c 25 t := before0_25_of m (dats m 0 c) (A_eq m c 25) (after25 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d)))

/-- What it ends with. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t))

end Cert.KernelIdeal.Knn
-- ==== Proof.Launch.lean ====
/-
  The launch: the body's run at every grid point gives the pipeline's proof data, and with them the run of the whole program
  and the frame.
-/
module

public import proofs.«01_k».proof.Proof.Data
public import Idealize.ShloMosaic.Lib.Claim

@[expose] public section

set_option maxRecDepth 16384

noncomputable section

namespace Cert.KernelIdeal.Knn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body leaves alone. -/
def rest (c : Dev nD) (t : Fin cfg0.N) : sProp 𝕄 := iprop((∃ r, prngReg c r) ∗ (dats m 0 c).owesAt () t.castSucc)

theorem exists_owns {c : Dev nD} {s : Shape} {M : Memref sig .tc .vmem s .f32} {α : Type} {f : α → Vec F s .f32} {X : Vec F s .f32} (h : ∀ d, f d = X) :
    iprop(∃ d, owns (c : Thread nD τ) M fullShare (f d)) ⊢ (owns (c : Thread nD τ) M fullShare X : sProp 𝕄) :=
  exists_elim fun d => by rw [h d]

theorem owns_of_eq {c : Dev nD} {s : Shape} {M : Memref sig .tc .vmem s .f32} {X Y : Vec F s .f32} (h : Y = X) :
    (owns (c : Thread nD τ) M fullShare X : sProp 𝕄) ⊢ owns (c : Thread nD τ) M fullShare Y := by rw [h]

theorem sepL_out {A : sProp 𝕄} : (l : List (sProp 𝕄)) → sepL l A ⊢ iprop(A ∗ sepL l (iprop(emp) : sProp 𝕄))
  | [] => by simp only [sepL]; iintro H; isplitl [H]; · iexact H
             iempintro
  | P :: l => (sep_mono_right (sepL_out l)).trans (by
      simp only [sepL]
      iintro ⟨HP, HA, HL⟩
      isplitl [HA]; · iexact HA
      isplitl [HP]; · iexact HP
      iexact HL)

theorem sepL_in {A : sProp 𝕄} : (l : List (sProp 𝕄)) → iprop(A ∗ sepL l (iprop(emp) : sProp 𝕄)) ⊢ sepL l A
  | [] => by simp only [sepL]; iintro ⟨H, _⟩; iexact H
  | P :: l => BIBase.Entails.trans (by
      simp only [sepL]
      iintro ⟨HA, HP, HL⟩
      isplitl [HP]; · iexact HP
      isplitl [HA]; · iexact HA
      iexact HL) (sep_mono_right (Q := iprop(A ∗ sepL l (iprop(emp) : sProp 𝕄))) (sepL_in l))

/-- The inputs, spelled with the windows. -/
theorem inputs_eq (c : Dev nD) (t : Fin cfg0.N) : inputs c (bufs t) (ins m c t) = [
    owns (c : Thread nD τ) (ms0_0 t) fullShare (iblk m c 0 t),
    owns (c : Thread nD τ) (ms0_1 t) fullShare (iblk m c 1 t),
    owns (c : Thread nD τ) (ms0_2 t) fullShare (iblk m c 2 t),
    owns (c : Thread nD τ) (ms0_3 t) fullShare (iblk m c 3 t),
    owns (c : Thread nD τ) (ms0_4 t) fullShare (iblk m c 4 t),
    owns (c : Thread nD τ) (ms0_5 t) fullShare (iblk m c 5 t),
    owns (c : Thread nD τ) (ms0_6 t) fullShare (iblk m c 6 t),
    owns (c : Thread nD τ) (ms0_7 t) fullShare (iblk m c 7 t),
    owns (c : Thread nD τ) (ms0_8 t) fullShare (iblk m c 8 t),
    owns (c : Thread nD τ) (ms0_9 t) fullShare (iblk m c 9 t),
    owns (c : Thread nD τ) (ms0_10 t) fullShare (iblk m c 10 t),
    owns (c : Thread nD τ) (ms0_11 t) fullShare (iblk m c 11 t),
    owns (c : Thread nD τ) (ms0_12 t) fullShare (iblk m c 12 t),
    owns (c : Thread nD τ) (ms0_13 t) fullShare (iblk m c 13 t),
    owns (c : Thread nD τ) (ms0_14 t) fullShare (iblk m c 14 t),
    owns (c : Thread nD τ) (ms0_15 t) fullShare (iblk m c 15 t),
    owns (c : Thread nD τ) (ms0_16 t) fullShare (iblk m c 16 t),
    owns (c : Thread nD τ) (ms0_17 t) fullShare (iblk m c 17 t),
    owns (c : Thread nD τ) (ms0_18 t) fullShare (iblk m c 18 t),
    owns (c : Thread nD τ) (ms0_19 t) fullShare (iblk m c 19 t),
    owns (c : Thread nD τ) (ms0_20 t) fullShare (iblk m c 20 t),
    owns (c : Thread nD τ) (ms0_21 t) fullShare (iblk m c 21 t),
    owns (c : Thread nD τ) (ms0_22 t) fullShare (iblk m c 22 t),
    owns (c : Thread nD τ) (ms0_23 t) fullShare (iblk m c 23 t),
    owns (c : Thread nD τ) (ms0_24 t) fullShare (iblk m c 24 t),
    owns (c : Thread nD τ) (ms0_25 t) fullShare (iblk m c 25 t)] := by
  unfold inputs bufs ins
  simp only [Matrix.cons_val]

set_option maxHeartbeats 400000 in
/-- The inputs before the body. -/
theorem inputs_pre (c : Dev nD) (t : Fin cfg0.N) (R : sProp 𝕄) :
    iprop((∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ R) ⊢ sepL (inputs c (bufs t) (ins m c t)) R := by
  rw [inputs_eq]
  simp only [sepL]
  refine Idealize.SL.BI.sep_mono (exists_owns (before0 m c t)) ?_
  refine Idealize.SL.BI.sep_mono (exists_owns (before1 m c t)) ?_
  refine Idealize.SL.BI.sep_mono (exists_owns (before2 m c t)) ?_
  refine Idealize.SL.BI.sep_mono (exists_owns (before3 m c t)) ?_
  refine Idealize.SL.BI.sep_mono (exists_owns (before4 m c t)) ?_
  refine Idealize.SL.BI.sep_mono (exists_owns (before5 m c t)) ?_
  refine Idealize.SL.BI.sep_mono (exists_owns (before6 m c t)) ?_
  refine Idealize.SL.BI.sep_mono (exists_owns (before7 m c t)) ?_
  refine Idealize.SL.BI.sep_mono (exists_owns (before8 m c t)) ?_
  refine Idealize.SL.BI.sep_mono (exists_owns (before9 m c t)) ?_
  refine Idealize.SL.BI.sep_mono (exists_owns (before10 m c t)) ?_
  refine Idealize.SL.BI.sep_mono (exists_owns (before11 m c t)) ?_
  refine Idealize.SL.BI.sep_mono (exists_owns (before12 m c t)) ?_
  refine Idealize.SL.BI.sep_mono (exists_owns (before13 m c t)) ?_
  refine Idealize.SL.BI.sep_mono (exists_owns (before14 m c t)) ?_
  refine Idealize.SL.BI.sep_mono (exists_owns (before15 m c t)) ?_
  refine Idealize.SL.BI.sep_mono (exists_owns (before16 m c t)) ?_
  refine Idealize.SL.BI.sep_mono (exists_owns (before17 m c t)) ?_
  refine Idealize.SL.BI.sep_mono (exists_owns (before18 m c t)) ?_
  refine Idealize.SL.BI.sep_mono (exists_owns (before19 m c t)) ?_
  refine Idealize.SL.BI.sep_mono (exists_owns (before20 m c t)) ?_
  refine Idealize.SL.BI.sep_mono (exists_owns (before21 m c t)) ?_
  refine Idealize.SL.BI.sep_mono (exists_owns (before22 m c t)) ?_
  refine Idealize.SL.BI.sep_mono (exists_owns (before23 m c t)) ?_
  refine Idealize.SL.BI.sep_mono (exists_owns (before24 m c t)) ?_
  refine Idealize.SL.BI.sep_mono (exists_owns (before25 m c t)) ?_
  exact Idealize.SL.BI.Entails.refl _

set_option maxHeartbeats 400000 in
/-- The inputs after the body. -/
theorem inputs_post (c : Dev nD) (t : Fin cfg0.N) (R : sProp 𝕄) :
    sepL (inputs c (bufs t) (ins m c t)) R ⊢ iprop(owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ R) := by
  rw [inputs_eq]
  simp only [sepL]
  refine Idealize.SL.BI.sep_mono (owns_of_eq (after0 m c t)) ?_
  refine Idealize.SL.BI.sep_mono (owns_of_eq (after1 m c t)) ?_
  refine Idealize.SL.BI.sep_mono (owns_of_eq (after2 m c t)) ?_
  refine Idealize.SL.BI.sep_mono (owns_of_eq (after3 m c t)) ?_
  refine Idealize.SL.BI.sep_mono (owns_of_eq (after4 m c t)) ?_
  refine Idealize.SL.BI.sep_mono (owns_of_eq (after5 m c t)) ?_
  refine Idealize.SL.BI.sep_mono (owns_of_eq (after6 m c t)) ?_
  refine Idealize.SL.BI.sep_mono (owns_of_eq (after7 m c t)) ?_
  refine Idealize.SL.BI.sep_mono (owns_of_eq (after8 m c t)) ?_
  refine Idealize.SL.BI.sep_mono (owns_of_eq (after9 m c t)) ?_
  refine Idealize.SL.BI.sep_mono (owns_of_eq (after10 m c t)) ?_
  refine Idealize.SL.BI.sep_mono (owns_of_eq (after11 m c t)) ?_
  refine Idealize.SL.BI.sep_mono (owns_of_eq (after12 m c t)) ?_
  refine Idealize.SL.BI.sep_mono (owns_of_eq (after13 m c t)) ?_
  refine Idealize.SL.BI.sep_mono (owns_of_eq (after14 m c t)) ?_
  refine Idealize.SL.BI.sep_mono (owns_of_eq (after15 m c t)) ?_
  refine Idealize.SL.BI.sep_mono (owns_of_eq (after16 m c t)) ?_
  refine Idealize.SL.BI.sep_mono (owns_of_eq (after17 m c t)) ?_
  refine Idealize.SL.BI.sep_mono (owns_of_eq (after18 m c t)) ?_
  refine Idealize.SL.BI.sep_mono (owns_of_eq (after19 m c t)) ?_
  refine Idealize.SL.BI.sep_mono (owns_of_eq (after20 m c t)) ?_
  refine Idealize.SL.BI.sep_mono (owns_of_eq (after21 m c t)) ?_
  refine Idealize.SL.BI.sep_mono (owns_of_eq (after22 m c t)) ?_
  refine Idealize.SL.BI.sep_mono (owns_of_eq (after23 m c t)) ?_
  refine Idealize.SL.BI.sep_mono (owns_of_eq (after24 m c t)) ?_
  refine Idealize.SL.BI.sep_mono (owns_of_eq (after25 m c t)) ?_
  exact Idealize.SL.BI.Entails.refl _

/-- Everything at point `t`, when the body ends. -/
theorem st_post (c : Dev nD) (t : Fin cfg0.N) (d1 : Fin 25 → Tile F) (d2 : Fin 49 → Tile F) (a1 a2 : Fin 9 → Tile F) (gi gp : Fin 48 → Tile F) :
    St c (bufs t) (ins m c t) (rest m c t) d1 d2 a1 a2 gi gp (outs m c t).1 (outs m c t).2 ⊢ bodyPost m c t := by
  have hin : iprop((owns (c : Thread nD τ) (ms0_26 t) fullShare ((dats m 0 c).after 26 t) ∗ owns (c : Thread nD τ) (ms0_27 t) fullShare ((dats m 0 c).after 27 t))
      ∗ sepL (inputs c (bufs t) (ins m c t)) (iprop(emp) : sProp 𝕄)) ⊢ _ := (sepL_in _).trans (inputs_post m c t _)
  rw [after26, after27] at hin
  unfold bodyPost
  rw [show (dats m 0 c).Φ t.succ = Pipeline.ΦA spec0 c from rfl, PhiA0_eq,
    show (dats m 0 c).owesAt () t.succ = (dats m 0 c).owesAt () t.castSucc from rfl, after26, after27]
  unfold St rest tilesOf
  iintro ⟨⟨%X2, %h2, S2⟩, ⟨%X3, %h3, S3⟩, ⟨%X4, %h4, S4⟩, ⟨%X5, %h5, S5⟩, ⟨%X0, %h0, S0⟩, ⟨%X1, %h1, S1⟩, H26, H27, HI⟩
  ihave ⟨⟨Hg, Ho⟩, HI⟩ := (sepL_out (inputs c (bufs t) (ins m c t))) $$ HI
  isplitl [S0 S1 S2 S3 S4 S5 Hg]
  · isplitl [S0 S1 S2 S3 S4 S5]
    · isplitl [S0]; · iexists X0; iexact S0
      isplitl [S1]; · iexists X1; iexact S1
      isplitl [S2]; · iexists X2; iexact S2
      isplitl [S3]; · iexists X3; iexact S3
      isplitl [S4]; · iexists X4; iexact S4
      iexists X5; iexact S5
    iexact Hg
  isplitl [Ho]; · iexact Ho
  iapply hin
  isplitl [H26 H27]
  · isplitl [H26]; · iexact H26
    iexact H27
  iexact HI

theorem bodyAt_eq (t : Fin cfg0.N) : bodyAt0 (F := F) t = body (bufs t) := by
  unfold bodyAt0 bufs; exact body_eq _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _

/-- The body at any point. -/
theorem sound_body (c : Dev nD) (t : Fin cfg0.N) :
    bodyPre m c t ⊢ wp frame (wpE (defs₀ (F := F)) Variants.none c none) Set.univ (bodyAt0 t) (fun _ => bodyPost m c t) := by
  rw [bodyAt_eq]
  unfold bodyPre
  rw [show (dats m 0 c).Φ t.castSucc = Pipeline.ΦA spec0 c from rfl, PhiA0_eq]
  refine (sep_mono_right (sep_mono_right ((inputs_pre m c t _).trans (sepL_out _)))).trans ?_
  iintro ⟨⟨⟨⟨%X0, S0⟩, ⟨%X1, S1⟩, ⟨%X2, S2⟩, ⟨%X3, S3⟩, ⟨%X4, S4⟩, ⟨%X5, S5⟩⟩, Hg⟩, Ho, ⟨⟨%e26, H26⟩, ⟨%e27, H27⟩⟩, HI⟩
  iapply (body_rule (c := c) (B := bufs t) (I := ins m c t) (R := rest m c t) (Post := fun _ => bodyPost m c t)
    (d1 := plane X2) (d2 := plane X3) (a1 := plane X4) (a2 := plane X5) (gi := plane X0) (gp := plane X1) (st_post m c t))
  unfold St tilesOf
  isplitl [S2]
  · iexists X2; isplitr; · ipureintro; rfl
    iexact S2
  isplitl [S3]
  · iexists X3; isplitr; · ipureintro; rfl
    iexact S3
  isplitl [S4]
  · iexists X4; isplitr; · ipureintro; rfl
    iexact S4
  isplitl [S5]
  · iexists X5; isplitr; · ipureintro; rfl
    iexact S5
  isplitl [S0]
  · iexists X0; isplitr; · ipureintro; rfl
    iexact S0
  isplitl [S1]
  · iexists X1; isplitr; · ipureintro; rfl
    iexact S1
  isplitl [H26]; · iexact H26
  isplitl [H27]; · iexact H27
  iapply (sepL_in (A := rest m c t) (inputs c (bufs t) (ins m c t)))
  isplitl [Hg Ho]
  · unfold rest
    isplitl [Hg]; · iexact Hg
    iexact Ho
  iexact HI

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the implicit arguments are found by unifying the conclusion with this one, through plain definitions
set_option backward.isDefEq.respectTransparency.types false in
/-- The launch: every array at what the proof data say, every other buffer as found, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame: the program ends, its arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Knn
-- ==== Proof.Select.lean ====
/-
  Selecting the smallest values of a list of slots one at a time: what a tree of comparisons picks, what repeated picking
  picks, and that this is the beginning of the stable sort. Extended reals only; no programs here.
-/
module

public import Idealize.ShloMosaic.Lib.SortPrefix
public import Idealize.ShloMosaic.PureOps.Ideal

@[expose] public section

noncomputable section

namespace Cert.KernelIdeal.Knn

open Idealize.ShloMosaic

/-! ## A tree of an associative choice -/

section Tree

variable {P Q : Type} (f : P → P → P)

/-- The choice of all elements of a list, from the right. -/
def fold1 : List P → Option P
  | [] => none
  | a :: l => some ((fold1 l).elim a (f a))

/-- One level of the tree: neighbours chosen between, an odd one kept. -/
def lev : List P → List P
  | l :: r :: t => f l r :: lev t
  | [l] => [l]
  | [] => []

theorem fold1_lev (hf : ∀ a b c, f (f a b) c = f a (f b c)) : (l : List P) → fold1 f (lev f l) = fold1 f l
  | [] => rfl
  | [_] => rfl
  | a :: b :: t => by
    rw [lev, fold1, fold1_lev hf t, fold1, fold1]
    cases fold1 f t with
    | none => rfl
    | some c => exact congrArg some (hf a b c)

theorem length_lev : (l : List P) → (lev f l).length = (l.length + 1) / 2
  | [] => by simp [lev]
  | [_] => by simp [lev]
  | a :: b :: t => by rw [lev, List.length_cons, length_lev t, List.length_cons, List.length_cons]; omega

/-- Six levels leave one element of up to 64: the choice of all. -/
theorem tree_eq (hf : ∀ a b c, f (f a b) c = f a (f b c)) (l : List P) (h0 : 0 < l.length) (h64 : l.length ≤ 64) :
    ∃ p, lev f (lev f (lev f (lev f (lev f (lev f l))))) = [p] ∧ fold1 f l = some p := by
  have hlen : (lev f (lev f (lev f (lev f (lev f (lev f l)))))).length = 1 := by
    simp only [length_lev]; omega
  obtain ⟨p, hp⟩ := List.length_eq_one_iff.mp hlen
  refine ⟨p, hp, ?_⟩
  rw [← fold1_lev f hf l, ← fold1_lev f hf (lev f l), ← fold1_lev f hf (lev f (lev f l)), ← fold1_lev f hf (lev f (lev f (lev f l))),
    ← fold1_lev f hf (lev f (lev f (lev f (lev f l)))), ← fold1_lev f hf (lev f (lev f (lev f (lev f (lev f l))))), hp]
  rfl

theorem lev_map (g : Q → Q → Q) (φ : P → Q) (h : ∀ a b, g (φ a) (φ b) = φ (f a b)) : (l : List P) → lev g (l.map φ) = (lev f l).map φ
  | [] => rfl
  | [_] => rfl
  | a :: b :: t => by rw [List.map_cons, List.map_cons, lev, lev, List.map_cons, lev_map g φ h t, h]

end Tree

/-! ## The smallest value, the lowest slot where equal -/

variable {n : ℕ}

/-- Of two slots the one of the smaller value, the left one where equal. -/
def nmin (w : Fin n → EReal) (a b : Fin n) : Fin n := if w b < w a then b else a

theorem nmin_assoc (w : Fin n → EReal) (a b c : Fin n) : nmin w (nmin w a b) c = nmin w a (nmin w b c) := by
  unfold nmin
  by_cases h1 : w b < w a <;> by_cases h2 : w c < w b
  · simp only [if_pos h1, if_pos h2, if_pos (h2.trans h1)]
  · simp only [if_pos h1, if_neg h2]
  · simp only [if_neg h1, if_pos h2]
  · have h3 : ¬ w c < w a := not_lt.mpr ((not_lt.mp h1).trans (not_lt.mp h2))
    simp only [if_neg h1, if_neg h2, if_neg h3]

/-- `a` comes no later than `b`. -/
def NoLater (w : Fin n → EReal) (a b : Fin n) : Prop := w a < w b ∨ (w a = w b ∧ a ≤ b)

theorem NoLater.trans {w : Fin n → EReal} {a b c : Fin n} (h : NoLater w a b) (h' : NoLater w b c) : NoLater w a c := by
  rcases h with h | ⟨h, e⟩ <;> rcases h' with h' | ⟨h', e'⟩
  · exact .inl (h.trans h')
  · exact .inl (h' ▸ h)
  · exact .inl (h ▸ h')
  · exact .inr ⟨h.trans h', e.trans e'⟩

theorem fold1_nmin (w : Fin n → EReal) : (l : List (Fin n)) → l.Pairwise (· < ·) → (p : Fin n) → fold1 (nmin w) l = some p →
    p ∈ l ∧ ∀ s ∈ l, NoLater w p s
  | [], _, p, h => by simp [fold1] at h
  | a :: l, hl, p, h => by
    rw [List.pairwise_cons] at hl
    rw [fold1] at h
    cases e : fold1 (nmin w) l with
    | none =>
      rw [e] at h
      obtain rfl : a = p := Option.some.inj h
      cases l with
      | nil => exact ⟨List.mem_cons_self, fun s hs => by rw [List.mem_singleton.mp hs]; exact .inr ⟨rfl, le_rfl⟩⟩
      | cons b l => simp [fold1] at e
    | some b =>
      rw [e] at h
      obtain rfl : nmin w a b = p := Option.some.inj h
      obtain ⟨hb, hall⟩ := fold1_nmin w l hl.2 b e
      unfold nmin
      split
      · next hlt =>
        refine ⟨List.mem_cons_of_mem _ hb, fun s hs => ?_⟩
        rcases List.mem_cons.mp hs with rfl | hs
        · exact .inl hlt
        · exact hall s hs
      · next hge =>
        refine ⟨List.mem_cons_self, fun s hs => ?_⟩
        rcases List.mem_cons.mp hs with rfl | hs
        · exact .inr ⟨rfl, le_rfl⟩
        · refine NoLater.trans (b := b) ?_ (hall s hs)
          rcases lt_or_eq_of_le (not_lt.mp hge) with h | h
          · exact .inl h
          · exact .inr ⟨h, (hl.1 b hb).le⟩

/-! ## Repeated picking -/

variable [NeZero n]

/-- The slot that a pass picks. -/
def pk (l : List (Fin n)) (w : Fin n → EReal) : Fin n := (fold1 (nmin w) l).getD 0

theorem pk_spec {l : List (Fin n)} (hl : l.Pairwise (· < ·)) (h0 : 0 < l.length) (w : Fin n → EReal) : pk l w ∈ l ∧ ∀ s ∈ l, NoLater w (pk l w) s := by
  cases e : fold1 (nmin w) l with
  | none =>
    cases l with
    | nil => exact absurd h0 (by simp)
    | cons b l => simp [fold1] at e
  | some b =>
    have : pk l w = b := by rw [pk, e]; rfl
    rw [this]
    exact fold1_nmin w l hl b e

/-- The values before pass `k`: those already picked are infinite. -/
def left (l : List (Fin n)) (v : Fin n → EReal) : ℕ → Fin n → EReal
  | 0 => v
  | k + 1 => fun s => if pk l (left l v k) = s then ⊤ else left l v k s

/-- The slot picked in pass `k`. -/
def sel (l : List (Fin n)) (v : Fin n → EReal) (k : ℕ) : Fin n := pk l (left l v k)

theorem left_of_new (l : List (Fin n)) (v : Fin n → EReal) : (k : ℕ) → (s : Fin n) → (∀ j < k, sel l v j ≠ s) → left l v k s = v s
  | 0, _, _ => rfl
  | k + 1, s, h => by
    show (if sel l v k = s then ⊤ else left l v k s) = v s
    rw [if_neg (h k (Nat.lt_succ_self k))]
    exact left_of_new l v k s fun j hj => h j (hj.trans (Nat.lt_succ_self k))

theorem left_of_old (l : List (Fin n)) (v : Fin n → EReal) : (k : ℕ) → (j : ℕ) → j < k → left l v k (sel l v j) = ⊤
  | k + 1, j, h => by
    show (if pk l (left l v k) = sel l v j then ⊤ else left l v k (sel l v j)) = ⊤
    split
    · rfl
    · next hne =>
      refine left_of_old l v k j (lt_of_le_of_ne (Nat.lt_succ_iff.mp h) ?_)
      rintro rfl
      exact hne rfl

/-- Pass `k` picks a slot not picked before, and no other such slot comes before it. -/
theorem sel_spec {l : List (Fin n)} (hl : l.Pairwise (· < ·)) {v : Fin n → EReal} (hv : ∀ s ∈ l, v s < ⊤) {k : ℕ} (hk : k < l.length) :
    sel l v k ∈ l ∧ (∀ j < k, sel l v j ≠ sel l v k) ∧ ∀ s ∈ l, (∀ j < k, sel l v j ≠ s) → NoLater v (sel l v k) s := by
  have hnd : l.Nodup := hl.imp fun h => ne_of_lt h
  obtain ⟨hmem, hall⟩ := pk_spec hl (Nat.zero_lt_of_lt hk) (left l v k)
  -- some slot is not picked yet
  obtain ⟨s0, hs0, hnew0⟩ : ∃ s ∈ l, ∀ j < k, sel l v j ≠ s := by
    by_contra hcon
    push Not at hcon
    have hsub : l.toFinset ⊆ (Finset.range k).image (sel l v) := fun s hs => by
      obtain ⟨j, hj, e⟩ := hcon s (List.mem_toFinset.mp hs)
      exact Finset.mem_image.mpr ⟨j, Finset.mem_range.mpr hj, e⟩
    have h1 := Finset.card_le_card hsub
    rw [List.toFinset_card_of_nodup hnd] at h1
    have h2 := (h1.trans Finset.card_image_le).trans_eq (Finset.card_range k)
    omega
  have hfin : left l v k (sel l v k) < ⊤ := by
    have h0 : left l v k s0 < ⊤ := by rw [left_of_new l v k s0 hnew0]; exact hv s0 hs0
    rcases hall s0 hs0 with h | ⟨h, _⟩
    · exact h.trans h0
    · exact lt_of_eq_of_lt h h0
  have hnew : ∀ j < k, sel l v j ≠ sel l v k := fun j hj e => by
    rw [← e, left_of_old l v k j hj] at hfin
    exact lt_irrefl _ hfin
  refine ⟨hmem, hnew, fun s hs hn => ?_⟩
  have := hall s hs
  unfold NoLater at this ⊢
  rw [left_of_new l v k s hn] at this
  rw [show pk l (left l v k) = sel l v k from rfl, left_of_new l v k _ hnew] at this
  exact this

/-! ## The stable sort -/

section Stable

variable {ι : Type} {B B' : ι → ι → Bool}

omit [NeZero n] in
theorem insertBefore_same (a : ι) : (l : List ι) → (∀ b ∈ l, B b a = B' b a) → insertBefore B a l = insertBefore B' a l
  | [], _ => rfl
  | b :: l, h => by
    rw [insertBefore, insertBefore, h b List.mem_cons_self, insertBefore_same a l fun c hc => h c (List.mem_cons_of_mem _ hc)]

omit [NeZero n] in
theorem stableSort_same : (l : List ι) → l.Pairwise (fun a b => B b a = B' b a) → stableSort B l = stableSort B' l
  | [], _ => rfl
  | a :: l, h => by
    rw [List.pairwise_cons] at h
    rw [stableSort, stableSort, stableSort_same l h.2]
    exact insertBefore_same a _ fun b hb => h.1 b ((perm_stableSort _ l).mem_iff.mp hb)

end Stable

/-- Before in value, then in position. -/
def before (v : Fin n → EReal) (a b : Fin n) : Bool := decide (v a < v b) || (decide (v a = v b) && decide (a < b))

omit [NeZero n] in
theorem before_total (v : Fin n → EReal) : StrictTotalBefore (before v) :=
  StrictTotalBefore.of_key_then_position (fun x y : EReal => decide (x < y)) v (fun a => by simp)
    (fun a b c hab hbc => by simp only [decide_eq_true_eq] at *; exact hab.trans hbc)
    (fun a b => by simp only [decide_eq_true_eq]; exact lt_trichotomy a b)

omit [NeZero n] in
theorem before_eq_false {v : Fin n → EReal} {a b : Fin n} (h : NoLater v a b) : before v b a = false := by
  unfold before
  rcases h with h | ⟨h, e⟩
  · simp [h.ne', not_lt.mpr h.le]
  · simp [h, not_lt.mpr e]

omit [NeZero n] in
/-- A sort by value alone puts first what comes first in value and then in position. -/
theorem sortedFrom_value {v : Fin n → EReal} {B : Fin n → Fin n → Bool} (hB : ∀ a b, B a b = decide (v a < v b)) {K : ℕ} (hK : K ≤ n)
    (σ : Fin K → Fin n) (hinj : Function.Injective σ) (hord : ∀ i j : Fin K, i < j → NoLater v (σ i) (σ j))
    (hdom : ∀ (i : Fin K) (p : Fin n), (∀ j, σ j ≠ p) → NoLater v (σ i) p) (i : Fin K) : sortedFrom B (i.castLE hK) = σ i := by
  have hs : sortedFrom B = sortedFrom (before v) := by
    have : sortPositions n B = sortPositions n (before v) := by
      refine stableSort_same _ ((List.pairwise_lt_finRange n).imp fun {a b} hab => ?_)
      rw [hB, before]
      simp [not_lt.mpr hab.le]
    funext k
    exact List.getElem_of_eq this _
  rw [hs]
  exact (before_total v).sortedFrom_eq_of_prefix hK σ hinj (fun i j h => before_eq_false (hord i j h)) (fun i p h => before_eq_false (hdom i p h)) i

/-- Repeated picking over all slots is the beginning of the sort. -/
theorem sortedFrom_sel {l : List (Fin n)} (hl : l.Pairwise (· < ·)) (hmem : ∀ s, s ∈ l) {v : Fin n → EReal} (hv : ∀ s, v s < ⊤)
    {B : Fin n → Fin n → Bool} (hB : ∀ a b, B a b = decide (v a < v b)) {K : ℕ} (hK : K ≤ n) (hKl : K ≤ l.length) (i : Fin K) :
    sortedFrom B (i.castLE hK) = sel l v i.val := by
  have spec := fun i : Fin K => sel_spec hl (v := v) (fun s _ => hv s) (k := i.val) (i.isLt.trans_le hKl)
  refine sortedFrom_value hB hK (fun i => sel l v i.val) (fun i j e => ?_) (fun i j hij => ?_) (fun i p hp => ?_) i
  · rcases lt_trichotomy i j with h | h | h
    · exact absurd e ((spec j).2.1 i.val h)
    · exact h
    · exact absurd e.symm ((spec i).2.1 j.val h)
  · exact (spec i).2.2 _ (hmem _) fun k hk => (spec j).2.1 k (hk.trans hij)
  · exact (spec i).2.2 p (hmem p) fun k hk => hp ⟨k, hk.trans i.isLt⟩

/-- With a slot `c` that is put before all others, the beginning of the sort is `c` and then repeated picking over the others. -/
theorem sortedFrom_sel_cons {l : List (Fin n)} (hl : l.Pairwise (· < ·)) {c : Fin n} (hmem : ∀ s, s = c ∨ s ∈ l) (hc : c ∉ l) {v v' : Fin n → EReal}
    (hv : ∀ s ∈ l, v s < ⊤) (heq : ∀ s ∈ l, v' s = v s) (hlow : ∀ s ∈ l, v' c < v s)
    {B : Fin n → Fin n → Bool} (hB : ∀ a b, B a b = decide (v' a < v' b)) {K : ℕ} (hK : K + 1 ≤ n) (hKl : K ≤ l.length) (i : Fin (K + 1)) :
    sortedFrom B (i.castLE hK) = if i = 0 then c else sel l v (i.val - 1) := by
  have spec := fun i : Fin K => sel_spec hl hv (k := i.val) (i.isLt.trans_le hKl)
  have conv : ∀ a ∈ l, ∀ b ∈ l, NoLater v a b → NoLater v' a b := fun a ha b hb h => by
    unfold NoLater; rw [heq a ha, heq b hb]; exact h
  have first : ∀ s ∈ l, NoLater v' c s := fun s hs => .inl ((heq s hs).symm ▸ hlow s hs)
  have main : sortedFrom B (i.castLE hK) = (Fin.cons c fun j : Fin K => sel l v j.val : Fin (K + 1) → Fin n) i := by
    refine sortedFrom_value hB hK _ (fun i j e => ?_) (fun i j hij => ?_) (fun i p hp => ?_) i
    · refine Fin.cases (fun e => ?_) (fun i e => ?_) i e <;> refine Fin.cases (fun e => ?_) (fun j e => ?_) j e
      · rfl
      · exact absurd ((spec j).1) (by rw [Fin.cons_zero, Fin.cons_succ] at e; exact e ▸ hc)
      · exact absurd ((spec i).1) (by rw [Fin.cons_zero, Fin.cons_succ] at e; exact e ▸ hc)
      · rw [Fin.cons_succ, Fin.cons_succ] at e
        congr 1
        rcases lt_trichotomy i j with h | h | h
        · exact absurd e ((spec j).2.1 i.val h)
        · exact h
        · exact absurd e.symm ((spec i).2.1 j.val h)
    · refine Fin.cases (fun hij => ?_) (fun j hij => ?_) j hij
      · exact absurd hij (Fin.not_lt_zero i)
      · refine Fin.cases (fun hij => ?_) (fun i hij => ?_) i hij
        · rw [Fin.cons_zero, Fin.cons_succ]; exact first _ (spec j).1
        · rw [Fin.cons_succ, Fin.cons_succ]
          exact conv _ (spec i).1 _ (spec j).1 ((spec i).2.2 _ (spec j).1 fun k hk => (spec j).2.1 k (hk.trans (Fin.succ_lt_succ_iff.mp hij)))
    · have hpl : p ∈ l := (hmem p).resolve_left fun e => hp 0 (by rw [Fin.cons_zero]; exact e.symm)
      refine Fin.cases ?_ (fun i => ?_) i
      · rw [Fin.cons_zero]; exact first p hpl
      · rw [Fin.cons_succ]
        refine conv _ (spec i).1 _ hpl ((spec i).2.2 p hpl fun k hk e => hp (Fin.succ ⟨k, hk.trans i.isLt⟩) ?_)
        rw [Fin.cons_succ]; exact e
  rw [main]
  refine Fin.cases ?_ (fun i => ?_) i
  · rw [Fin.cons_zero, if_pos rfl]
  · rw [Fin.cons_succ, if_neg (Fin.succ_ne_zero i)]; rfl

end Cert.KernelIdeal.Knn
-- ==== Proof.Pixel.lean ====
/-
  What the body's picks are at one pixel of a tile, over the extended reals: the tree of comparisons picks the first of
  the smallest distances, the passes pick one slot after another, and the masked selects take the picked slot's value.
-/
module

public import proofs.«01_k».proof.Proof.Select
public import proofs.«01_k».proof.Proof.Model

@[expose] public section

noncomputable section

namespace Cert.KernelIdeal.Knn

open Idealize.ShloMosaic Idealize.ShloMosaic.ValueIdx
open Cert.KernelIdeal.Gen

/-! ## Slots as numbers -/

/-- The number that names slot `s` in a tile of slots. -/
def code (s : ℕ) : EReal := Ideal.ofBits .f32 (slotBits s)

/-- A positive normal number below `2 ^ 24`, read off its bits. -/
theorem ieee_nat (b : BitVec 32) (n : ℕ)
    (h : b.extractLsb' 31 1 ≠ 1#1 ∧ (b.extractLsb' 23 8).toNat ≠ 255 ∧ (b.extractLsb' 23 8).toNat ≠ 0 ∧ (b.extractLsb' 23 8).toNat ≤ 150 ∧
      2 ^ 23 + (b.extractLsb' 0 23).toNat = n * 2 ^ (150 - (b.extractLsb' 23 8).toNat)) : Ideal.ieee 8 23 b = ((n : ℝ) : EReal) := by
  obtain ⟨h1, h2, h3, h4, h5⟩ := h
  unfold Ideal.ieee
  have hs : (b.extractLsb' (8 + 23) 1 == 1#1) = false := by simpa using h1
  simp only [hs]
  rw [if_neg (by simpa using h2), if_neg h3]
  rw [h5]
  generalize (b.extractLsb' 23 8).toNat = e at *
  obtain ⟨d, hd⟩ : ∃ d, 150 = e + d := ⟨150 - e, by omega⟩
  have hd' : 150 - e = d := by omega
  have he : ((e : ℤ) - (2 ^ (8 - 1) - 1) - ((23 : ℕ) : ℤ)) = -(d : ℤ) := by omega
  rw [hd', he]
  congr 1
  push_cast
  rw [zpow_neg, zpow_natCast, one_mul, mul_assoc, mul_inv_cancel₀ (by positivity), mul_one]

theorem code_zero : code 0 = 0 := by
  unfold code Ideal.ofBits Ideal.ieee slotBits slotWords
  simp

theorem code_eq (s : Fin 49) : code s.val = ((s.val : ℝ) : EReal) := by
  by_cases h : s = 0
  · subst h; exact code_zero.trans (by simp)
  · refine ieee_nat _ _ ?_
    revert s
    decide

theorem code_inj {n : ℕ} (hn : n ≤ 49) (s t : Fin n) : code s.val = code t.val ↔ s = t := by
  rw [show code s.val = _ from code_eq (s.castLE hn), show code t.val = _ from code_eq (t.castLE hn), EReal.coe_eq_coe_iff, Nat.cast_inj]
  exact (Fin.ext_iff (a := s) (b := t)).symm

theorem inf_eq : Ideal.ofBits .f32 0x7F800000#32 = ⊤ := by
  unfold Ideal.ofBits Ideal.ieee
  simp

/-! ## The tree -/

/-- Of two candidates at one pixel the smaller, the left one where equal. -/
def pmin (p q : EReal × EReal) : EReal × EReal := if q.1 < p.1 then q else p

/-- A candidate at one pixel. -/
def Node.at (y : S8x128.Idx) (N : Node Ideal) : EReal × EReal := (N.v y, N.i y)

theorem select_olt (a b : EReal) {α : Type} (x y : α) : (if Ideal.cmp .olt a b = 1#1 then x else y) = if a < b then x else y := by
  unfold Ideal.cmp
  by_cases h : a < b <;> simp [h]

theorem select_oeq (a b : EReal) {α : Type} (x y : α) : (if Ideal.cmp .oeq a b = 1#1 then x else y) = if a = b then x else y := by
  unfold Ideal.cmp
  by_cases h : a = b <;> simp [h]

theorem Node.at_min (y : S8x128.Idx) (l r : Node Ideal) : pmin (l.at y) (r.at y) = (Node.min l r).at y := by
  have h1 : (Node.min l r).v y = if r.v y < l.v y then r.v y else l.v y := select_olt _ _ _ _
  have h2 : (Node.min l r).i y = if r.v y < l.v y then r.i y else l.i y := select_olt _ _ _ _
  unfold Node.at pmin
  rw [h1, h2]
  by_cases h : r.v y < l.v y <;> simp [h]

theorem level_eq : (l : List (Node Ideal)) → level l = lev Node.min l
  | [] => rfl
  | [_] => rfl
  | a :: b :: t => by rw [level, lev, level_eq t]

/-- The tree names the slot that one pass picks. -/
theorem argmin_at {n : ℕ} [NeZero n] (slots : List (Fin n)) (h0 : 0 < slots.length) (h64 : slots.length ≤ 64) (v : Fin n → Tile Ideal) (y : S8x128.Idx) :
    argmin (slots.map fun s => (s, v s)) y = code (pk slots fun s => v s y).val := by
  obtain ⟨p, hp, hf⟩ := tree_eq (nmin fun s => v s y) (nmin_assoc _) slots h0 h64
  have hφ : ∀ a b : Fin n, pmin (v a y, code a.val) (v b y, code b.val) = (v (nmin (fun s => v s y) a b) y, code (nmin (fun s => v s y) a b).val) := fun a b => by
    unfold pmin nmin
    by_cases h : v b y < v a y <;> simp [h]
  have hl : ∀ l : List (Node Ideal), lev pmin (l.map (Node.at y)) = (lev Node.min l).map (Node.at y) := lev_map _ _ _ (Node.at_min y)
  have hs := fun l => lev_map (nmin fun s => v s y) pmin (fun s => (v s y, code s.val)) hφ l
  have e : (level (level (level (level (level (level (leaves (slots.map fun s => (s, v s))))))))).map (Node.at y) = [(v p y, code p.val)] := by
    simp only [level_eq]
    simp only [← hl]
    have : (leaves (slots.map fun s => (s, v s))).map (Node.at y) = slots.map fun s => (v s y, code s.val) := by
      rw [leaves, List.map_map, List.map_map]; rfl
    rw [this]
    simp only [hs]
    rw [hp]; rfl
  have hpk : pk slots (fun s => v s y) = p := by rw [pk, hf]; rfl
  rw [hpk]
  unfold argmin
  generalize level (level (level (level (level (level (leaves (slots.map fun s => (s, v s)))))))) = L at e ⊢
  match L, e with
  | N :: _, e => exact congrArg Prod.snd (List.cons.inj e).1

theorem masked_at {n : ℕ} (hn : n ≤ 49) (ai : Tile Ideal) (s σ : Fin n) (v : Tile Ideal) (y : S8x128.Idx) (h : ai y = code σ.val) :
    masked ai (s, v) y = if σ = s then ⊤ else v y := by
  have : masked ai (s, v) y = if ai y = code s.val then Ideal.ofBits .f32 0x7F800000#32 else v y := select_oeq _ _ _ _
  rw [this, inf_eq, h]
  simp only [code_inj hn]

/-! ## The passes -/

section Passes

variable {n : ℕ} [NeZero n] (hn : n ≤ 49) (slots : List (Fin n)) (h0 : 0 < slots.length) (h64 : slots.length ≤ 64) (v : Fin n → Tile Ideal) (y : S8x128.Idx)

include hn h0 h64

theorem seqD_at : (k : ℕ) → (s : Fin n) → seqD slots v k s y = left slots (fun s => v s y) k s
  | 0, _ => rfl
  | k + 1, s => by
    show masked (argmin (slots.map fun s => (s, seqD slots v k s))) (s, seqD slots v k s) y = _
    rw [masked_at hn _ s _ _ y (argmin_at slots h0 h64 (seqD slots v k) y)]
    have : (fun s => seqD slots v k s y) = left slots (fun s => v s y) k := funext fun s => seqD_at k s
    rw [this, seqD_at k s]; rfl

/-- Pass `k` names the slot `sel` of the distances at the pixel. -/
theorem pickA_at (k : ℕ) : pickA slots v k y = code (sel slots (fun s => v s y) k).val := by
  rw [pickA, argmin_at slots h0 h64 _ y]
  have : (fun s => seqD slots v k s y) = left slots (fun s => v s y) k := funext fun s => seqD_at hn slots h0 h64 v y k s
  rw [this]; rfl

end Passes

/-! ## Taking the picked slot's value -/

section Take

variable {k n : ℕ} (hn : n ≤ 49) (slot : Fin k → Fin k → Fin n) (row : Fin k → Fin 8) (ai : Tile Ideal) (y : S8x128.Idx) (σ : Fin n) (hai : ai y = code σ.val)
  (val : Fin n → EReal)

include hn hai

theorem pickRows_at (dj : Fin k) (sc : FVec Ideal S16x128 .f32) (hval : ∀ di, rows sc (row di) y = val (slot di dj)) :
    (l : List (Fin k)) → (prev : Tile Ideal) → pickRows slot row ai dj sc l prev y = if ∃ di ∈ l, slot di dj = σ then val σ else prev y
  | [], prev => by simp [pickRows]
  | di :: l, prev => by
    rw [pickRows, pickRows_at dj sc hval l]
    have : (select (cmpf .oeq ai (splat (slotBits (slot di dj).val))) (rows sc (row di)) prev : Tile Ideal) y
        = if ai y = code (slot di dj).val then rows sc (row di) y else prev y := select_oeq _ _ _ _
    rw [this, hai, hval]
    simp only [code_inj hn, List.mem_cons, exists_eq_or_imp]
    by_cases h1 : ∃ di ∈ l, slot di dj = σ
    · simp [h1]
    · by_cases h2 : slot di dj = σ
      · simp [h2]
      · simp [h1, h2, Ne.symm h2, eq_comm]

theorem pickV_at (dis : Fin k → List (Fin k)) (X : Fin k → Blocks Ideal) (ch : Fin 5)
    (hval : ∀ di dj, rows (col (X dj) ch) (row di) y = val (slot di dj)) :
    (l : List (Fin k)) → (prev : Tile Ideal) →
      pickV slot row dis X ch ai l prev y = if ∃ dj ∈ l, ∃ di ∈ dis dj, slot di dj = σ then val σ else prev y
  | [], prev => by simp [pickV]
  | dj :: l, prev => by
    rw [pickV, pickV_at dis X ch hval l, pickRows_at hn slot row ai y σ hai val dj _ fun di => hval di dj]
    simp only [List.mem_cons, exists_eq_or_imp]
    by_cases h1 : ∃ dj ∈ l, ∃ di ∈ dis dj, slot di dj = σ
    · simp [h1]
    · by_cases h2 : ∃ di ∈ dis dj, slot di dj = σ
      · simp [h2]
      · simp [h1, h2]

end Take

/-! ## The neighbours -/

theorem slots5_sorted : slots5.Pairwise (· < ·) := by decide
theorem slots7_sorted : slots7.Pairwise (· < ·) := by decide
theorem slots5_cover : ∀ s ∈ slots5, ∃ dj ∈ fin5, ∃ di ∈ dis5 dj, slot5 di dj = s := by decide
theorem slots7_cover : ∀ s ∈ slots7, ∃ dj ∈ fin7, ∃ di ∈ fin7, slot7 di dj = s := by decide

/-- The values of a window's slots at a pixel. -/
def Ins.win5 (I : Ins Ideal) (y : S8x128.Idx) (ch : Fin 5) (s : Fin 25) : EReal := rows (col (I.x (sj5 s)) ch) (row5 (si5 s)) y
def Ins.win7 (I : Ins Ideal) (y : S8x128.Idx) (ch : Fin 5) (s : Fin 49) : EReal := rows (col (I.p (sj7 s)) ch) (row7 (si7 s)) y

/-- The slots of a pixel's neighbours: repeated picking by the distance of channel 0 from the centre. -/
def nbr5 (win : Fin 25 → EReal) (mid : EReal) (j : Fin 9) : Fin 25 :=
  if j = 0 then 12 else sel slots5 (fun s => max (win s - mid) (-(win s - mid))) (j.val - 1)
def nbr7 (win : Fin 49 → EReal) (mid : EReal) (j : Fin 9) : Fin 49 :=
  sel slots7 (fun s => max (win s - mid) (-(win s - mid))) j.val

/-- No distance is infinite. -/
def Tame {n : ℕ} (win : Fin n → EReal) (mid : EReal) : Prop := ∀ s, max (win s - mid) (-(win s - mid)) < ⊤

theorem Ins.near5_at (I : Ins Ideal) (y : S8x128.Idx) (ht : Tame (I.win5 y 0) (I.center 0 y)) (ch : Fin 5) (j : Fin 9) :
    I.near5 ch j y = I.win5 y ch (nbr5 (I.win5 y 0) (I.center 0 y) j) := by
  unfold near5 nbr5
  by_cases hj : j = 0
  · rw [if_pos hj, if_pos hj]; rfl
  · rw [if_neg hj, if_neg hj]
    have hA : I.A5 (j.val - 1) y = code (sel slots5 (fun s => max (I.win5 y 0 s - I.center 0 y) (-(I.win5 y 0 s - I.center 0 y))) (j.val - 1)).val :=
      pickA_at (by decide) slots5 (by decide) (by decide) _ y _
    rw [pickV_at (by decide) slot5 row5 _ y _ hA (I.win5 y ch) dis5 I.x ch ?_ fin5 _, if_pos]
    · exact slots5_cover _ (sel_spec slots5_sorted (fun s _ => ht s) (show j.val - 1 < 24 by omega)).1
    · intro di dj
      unfold win5
      have h1 : si5 (slot5 di dj) = di := Fin.ext (by show (di.val * 5 + dj.val) / 5 = di.val; omega)
      have h2 : sj5 (slot5 di dj) = dj := Fin.ext (by show (di.val * 5 + dj.val) % 5 = dj.val; omega)
      rw [h1, h2]

theorem Ins.near7_at (I : Ins Ideal) (y : S8x128.Idx) (ht : Tame (I.win7 y 0) (I.center 0 y)) (ch : Fin 5) (j : Fin 9) :
    I.near7 ch j y = I.win7 y ch (nbr7 (I.win7 y 0) (I.center 0 y) j) := by
  unfold near7 nbr7
  have hA : I.A7 j.val y = code (sel slots7 (fun s => max (I.win7 y 0 s - I.center 0 y) (-(I.win7 y 0 s - I.center 0 y))) j.val).val :=
    pickA_at (by decide) slots7 (by decide) (by decide) _ y _
  rw [pickV_at (by decide) slot7 row7 _ y _ hA (I.win7 y ch) (fun _ => fin7) I.p ch ?_ fin7 _, if_pos]
  · exact slots7_cover _ (sel_spec slots7_sorted (fun s _ => ht s) (show j.val < 49 by omega)).1
  · intro di dj
    unfold win7
    have h1 : si7 (slot7 di dj) = di := Fin.ext (by show (di.val * 7 + dj.val) / 7 = di.val; omega)
    have h2 : sj7 (slot7 di dj) = dj := Fin.ext (by show (di.val * 7 + dj.val) % 7 = dj.val; omega)
    rw [h1, h2]

end Cert.KernelIdeal.Knn
-- ==== Proof.Spec.lean ====
/-
  The problem's mathematics over the extended reals, at one pixel: the windows around it with zeros outside the image,
  the slots of its nearest neighbours, the polar coordinates of the second window, and the weighted sums.
-/
module

public import proofs.«01_k».proof.Proof.Pixel
public import Idealize.ShloMosaic.Lib.Pointwise.Index

@[expose] public section

noncomputable section

namespace Cert.KernelIdeal.Knn

open Idealize.ShloMosaic

/-- The images [batch, channel, row, column] and the weights. -/
abbrev Img : Type := (⟨4, ![2, 5, 64, 2048]⟩ : Shape).Idx → EReal
abbrev Wgt : Type := (⟨4, ![5, 32, 3, 3]⟩ : Shape).Idx → EReal

/-- The image with three rows and columns of zeros around it (and zeros beyond). -/
def pix (x : Img) (b : Fin 2) (ch : Fin 5) (i j : ℕ) : EReal :=
  if h : (3 ≤ i ∧ i < 67) ∧ (3 ≤ j ∧ j < 2051) then x (ix4 b ch ⟨i - 3, by omega⟩ ⟨j - 3, by omega⟩) else 0

theorem pix_in (x : Img) (b : Fin 2) (ch : Fin 5) (H : Fin 64) (W : Fin 2048) : pix x b ch (H.val + 3) (W.val + 3) = x (ix4 b ch H W) := by
  unfold pix; rw [dif_pos ⟨by omega, by omega⟩]; rfl

/-- The slots of the two windows around pixel `(H, W)`, and its own values. -/
def around5 (x : Img) (b : Fin 2) (H W : ℕ) (ch : Fin 5) (s : Fin 25) : EReal := pix x b ch (H + s.val / 5 + 1) (W + s.val % 5 + 1)
def around7 (p : Img) (b : Fin 2) (H W : ℕ) (ch : Fin 5) (s : Fin 49) : EReal := pix p b ch (H + s.val / 7) (W + s.val % 7)
def here (x : Img) (b : Fin 2) (H W : ℕ) (ch : Fin 5) : EReal := pix x b ch (H + 3) (W + 3)

/-- The values of the nearest neighbours. -/
def near5 (x : Img) (b : Fin 2) (H W : ℕ) (ch : Fin 5) (j : Fin 9) : EReal :=
  around5 x b H W ch (nbr5 (around5 x b H W 0) (here x b H W 0) j)
def near7 (x p : Img) (b : Fin 2) (H W : ℕ) (ch : Fin 5) (j : Fin 9) : EReal :=
  around7 p b H W ch (nbr7 (around7 p b H W 0) (here x b H W 0) j)

def rad (x y z : EReal) : EReal := Ideal.sqrt (x * x + y * y + z * z)
def ang (x y z : EReal) : EReal := Ideal.atan2 (Ideal.sqrt (x * x + y * y)) (z * z)
def ang2 (x y z : EReal) : EReal := Ideal.atan2 (ang x y z * ang x y z) (rad x y z * rad x y z)

/-- The second window's neighbours with channels 1 to 3 in polar coordinates around the pixel. -/
def polarAt (x p : Img) (b : Fin 2) (H W : ℕ) (ch : Fin 5) (j : Fin 9) : EReal :=
  let d (c : Fin 5) := near7 x p b H W c j - here x b H W c
  if ch = 1 then rad (d 1) (d 2) (d 3) else if ch = 2 then ang (d 1) (d 2) (d 3) else if ch = 3 then ang2 (d 1) (d 2) (d 3)
  else near7 x p b H W ch j

theorem casts_wgt : (⟨4, ![5, 32, 3, 3]⟩ : Shape).ShapeCasts ⟨3, ![32, 5, 9]⟩ := by decide

/-- The weight of output `o`, channel `c`, neighbour `j`: the weights read in order. -/
def wt (w : Wgt) (o : Fin 32) (c : Fin 5) (j : Fin 9) : EReal := shapeCast ⟨3, ![32, 5, 9]⟩ w casts_wgt (ix3 o c j)

/-- The weighted sum of the neighbours, and the ramp. -/
def mix (w : Wgt) (o : Fin 32) (g : Fin 5 → Fin 9 → EReal) : EReal := max (∑ c : Fin 5, ∑ j : Fin 9, wt w o c j * g c j) 0

/-- The two results at a pixel. -/
def res1 (x : Img) (w : Wgt) (b : Fin 2) (o : Fin 32) (H W : ℕ) : EReal := mix w o (near5 x b H W)
def res2 (x p : Img) (w : Wgt) (b : Fin 2) (o : Fin 32) (H W : ℕ) : EReal := mix w o (polarAt x p b H W)

/-! ## Finite images -/

/-- Channel 0 is finite everywhere. -/
def Finite0 (x : Img) : Prop := ∀ b H W, max (x (ix4 b 0 H W)) (-x (ix4 b 0 H W)) < ⊤

theorem real_of_abs {e : EReal} (h : max e (-e) < ⊤) : ∃ r : ℝ, e = r := by
  induction e with
  | bot => simp at h
  | top => simp at h
  | coe r => exact ⟨r, rfl⟩

theorem Finite0.pix {x : Img} (h : Finite0 x) (b : Fin 2) (i j : ℕ) : ∃ r : ℝ, pix x b 0 i j = r := by
  unfold Knn.pix
  split
  · exact real_of_abs (h _ _ _)
  · exact ⟨0, by simp⟩

/-- The distance as the kernel takes it, and as the reference takes it. -/
theorem abs_real (a c : ℝ) : max ((a : EReal) - c) (-((a : EReal) - c)) = ((|a - c| : ℝ) : EReal) := by
  rw [← EReal.coe_sub, ← EReal.coe_neg]; exact (EReal.coe_strictMono.monotone.map_max (a := a - c) (b := -(a - c))).symm

theorem sqrt_real (a c : ℝ) : Ideal.sqrt (((a : EReal) - c) * ((a : EReal) - c)) = ((|a - c| : ℝ) : EReal) := by
  rw [← EReal.coe_sub, ← EReal.coe_mul, Ideal.sqrt_coe, if_neg (not_lt.mpr (mul_self_nonneg _)), Real.sqrt_mul_self_eq_abs]

theorem Finite0.tame5 {x : Img} (h : Finite0 x) (b : Fin 2) (H W : ℕ) : Tame (around5 x b H W 0) (here x b H W 0) := fun s => by
  obtain ⟨r, hr⟩ := h.pix b (H + s.val / 5 + 1) (W + s.val % 5 + 1)
  obtain ⟨q, hq⟩ := h.pix b (H + 3) (W + 3)
  rw [show around5 x b H W 0 s = r from hr, show here x b H W 0 = q from hq, abs_real]
  exact EReal.coe_lt_top _

theorem Finite0.tame7 {x p : Img} (hx : Finite0 x) (hp : Finite0 p) (b : Fin 2) (H W : ℕ) : Tame (around7 p b H W 0) (here x b H W 0) := fun s => by
  obtain ⟨r, hr⟩ := hp.pix b (H + s.val / 7) (W + s.val % 7)
  obtain ⟨q, hq⟩ := hx.pix b (H + 3) (W + 3)
  rw [show around7 p b H W 0 s = r from hr, show here x b H W 0 = q from hq, abs_real]
  exact EReal.coe_lt_top _

/-- The reference's order of the first window: the pixel itself first, the others by their distance. -/
theorem sorted5 {x : Img} (h : Finite0 x) (b : Fin 2) (H W : ℕ) {B : Fin 25 → Fin 25 → Bool} {v : Fin 25 → EReal}
    (hv : ∀ s, v s = if s = 12 then -1 else Ideal.sqrt ((around5 x b H W 0 s - here x b H W 0) * (around5 x b H W 0 s - here x b H W 0)))
    (hB : ∀ a c, B a c = decide (v a < v c)) (j : Fin 9) :
    sortedFrom B (j.castLE (by decide)) = nbr5 (around5 x b H W 0) (here x b H W 0) j := by
  have hd : ∀ s : Fin 25, ∃ r : ℝ, 0 ≤ r ∧ Ideal.sqrt ((around5 x b H W 0 s - here x b H W 0) * (around5 x b H W 0 s - here x b H W 0)) = r ∧
      max (around5 x b H W 0 s - here x b H W 0) (-(around5 x b H W 0 s - here x b H W 0)) = r := fun s => by
    obtain ⟨r, hr⟩ := h.pix b (H + s.val / 5 + 1) (W + s.val % 5 + 1)
    obtain ⟨q, hq⟩ := h.pix b (H + 3) (W + 3)
    rw [show around5 x b H W 0 s = r from hr, show here x b H W 0 = q from hq]
    exact ⟨_, abs_nonneg _, sqrt_real r q, abs_real r q⟩
  have hne : ∀ s ∈ slots5, s ≠ 12 := by decide
  refine (sortedFrom_sel_cons slots5_sorted (c := 12) (by decide) (by decide)
    (v := fun s => max (around5 x b H W 0 s - here x b H W 0) (-(around5 x b H W 0 s - here x b H W 0))) (v' := v)
    (fun s _ => h.tame5 b H W s) (fun s hs => ?_) (fun s hs => ?_) hB (K := 8) (by decide) (by decide) j)
  · obtain ⟨r, _, h1, h2⟩ := hd s
    rw [hv, if_neg (hne s hs)]
    exact h1.trans h2.symm
  · obtain ⟨r, h0, h1, h2⟩ := hd s
    show v 12 < max (around5 x b H W 0 s - here x b H W 0) (-(around5 x b H W 0 s - here x b H W 0))
    rw [hv, if_pos rfl, h2]
    have : (-1 : EReal) < 0 := by norm_num
    exact this.trans_le (by exact_mod_cast h0)

/-- The reference's order of the second window. -/
theorem sorted7 {x p : Img} (hx : Finite0 x) (hp : Finite0 p) (b : Fin 2) (H W : ℕ) {B : Fin 49 → Fin 49 → Bool} {v : Fin 49 → EReal}
    (hv : ∀ s, v s = Ideal.sqrt ((around7 p b H W 0 s - here x b H W 0) * (around7 p b H W 0 s - here x b H W 0)))
    (hB : ∀ a c, B a c = decide (v a < v c)) (j : Fin 9) :
    sortedFrom B (j.castLE (by decide)) = nbr7 (around7 p b H W 0) (here x b H W 0) j := by
  have e : v = fun s => max (around7 p b H W 0 s - here x b H W 0) (-(around7 p b H W 0 s - here x b H W 0)) := funext fun s => by
    obtain ⟨r, hr⟩ := hp.pix b (H + s.val / 7) (W + s.val % 7)
    obtain ⟨q, hq⟩ := hx.pix b (H + 3) (W + 3)
    rw [hv, show around7 p b H W 0 s = r from hr, show here x b H W 0 = q from hq]
    exact (sqrt_real r q).trans (abs_real r q).symm
  subst e
  exact sortedFrom_sel slots7_sorted (by decide) (hx.tame7 hp b H W) hB (by decide) (by decide) j

end Cert.KernelIdeal.Knn
-- ==== Proof.Reads.lean ====
/-
  Layout operations of both programs read at an index: zero padding of an image, and pieces laid side by side.
-/
module

public import Idealize.ShloMosaic.Lib.Pointwise
public import Idealize.ShloMosaic.Lib.Pipeline.Value
public import proofs.«01_k».proof.Proof.Spec

@[expose] public section

noncomputable section

namespace Cert.KernelIdeal.Knn

open Idealize.ShloMosaic

/-- An image padded with zeros, `k` rows and columns of them before it. -/
theorem pad_image {A B k : ℕ} (hk : k ≤ 3) (hi : Fin 4 → ℕ) (x : Img) {u : Shape} (z : u.Idx → EReal) (hz : ∀ i, z i = 0)
    (h : (⟨4, ![2, 5, 64, 2048]⟩ : Shape).Pads ![0, 0, k, k] hi ![0, 0, 0, 0] ⟨4, ![2, 5, A, B]⟩) (hu : 0 < u.numel)
    (b : Fin 2) (ch : Fin 5) (i : Fin A) (j : Fin B) :
    pad ⟨4, ![2, 5, A, B]⟩ ![0, 0, k, k] hi ![0, 0, 0, 0] x z h hu (ix4 b ch i j) = pix x b ch (i.val + (3 - k)) (j.val + (3 - k)) := by
  unfold pad pix
  by_cases hin : (3 ≤ i.val + (3 - k) ∧ i.val + (3 - k) < 67) ∧ (3 ≤ j.val + (3 - k) ∧ j.val + (3 - k) < 2051)
  · rw [dif_pos hin, dif_pos]
    · congr 1
      funext a
      match a with
      | 0 => exact Fin.ext (show (b.val - 0) / (0 + 1) = b.val by omega)
      | 1 => exact Fin.ext (show (ch.val - 0) / (0 + 1) = ch.val by omega)
      | 2 => exact Fin.ext (show (i.val - k) / (0 + 1) = i.val + (3 - k) - 3 by omega)
      | 3 => exact Fin.ext (show (j.val - k) / (0 + 1) = j.val + (3 - k) - 3 by omega)
    · intro a
      match a with
      | 0 => exact ⟨Nat.zero_le _, Nat.mod_one _, show (b.val - 0) / (0 + 1) < 2 by omega⟩
      | 1 => exact ⟨Nat.zero_le _, Nat.mod_one _, show (ch.val - 0) / (0 + 1) < 5 by omega⟩
      | 2 => exact ⟨show k ≤ i.val by omega, Nat.mod_one _, show (i.val - k) / (0 + 1) < 64 by omega⟩
      | 3 => exact ⟨show k ≤ j.val by omega, Nat.mod_one _, show (j.val - k) / (0 + 1) < 2048 by omega⟩
  · rw [dif_neg hin, dif_neg, hz]
    intro hall
    have h2 : k ≤ i.val ∧ (i.val - k) % (0 + 1) = 0 ∧ (i.val - k) / (0 + 1) < 64 := hall 2
    have h3 : k ≤ j.val ∧ (j.val - k) % (0 + 1) = 0 ∧ (j.val - k) / (0 + 1) < 2048 := hall 3
    exact hin ⟨⟨by omega, by omega⟩, by omega, by omega⟩

/-- Rows of `k` pieces each, the pieces themselves of one unit on axis 2: slot `s` is piece `s % k` of row `s / k`. -/
theorem unfold_at {k N : ℕ} (f : Fin k → Fin k → (⟨5, ![2, 5, 1, 64, 2048]⟩ : Shape).Idx → EReal)
    (hi : Shape.Concatenates ((List.ofFn fun _ : Fin k => (⟨5, ![2, 5, 1, 64, 2048]⟩ : Shape))) ⟨5, ![2, 5, k, 64, 2048]⟩ 2)
    (ho : Shape.Concatenates ((List.ofFn fun _ : Fin k => (⟨5, ![2, 5, k, 64, 2048]⟩ : Shape))) ⟨5, ![2, 5, N, 64, 2048]⟩ 2)
    (b : Fin 2) (ch : Fin 5) (s : Fin N) (H : Fin 64) (W : Fin 2048) (n m : Fin k) (hn : s.val / k = n.val) (hm : s.val % k = m.val) :
    concatenate ⟨5, ![2, 5, N, 64, 2048]⟩ 2
      (List.ofFn fun n : Fin k => (⟨⟨5, ![2, 5, k, 64, 2048]⟩, concatenate ⟨5, ![2, 5, k, 64, 2048]⟩ 2
        (List.ofFn fun m : Fin k => (⟨⟨5, ![2, 5, 1, 64, 2048]⟩, f n m⟩ : (s : Shape) × (s.Idx → EReal))) (by rw [List.map_ofFn]; exact hi)⟩ :
          (s : Shape) × (s.Idx → EReal))) (by rw [List.map_ofFn]; exact ho) (ix5 b ch s H W) = f n m (ix5 b ch 0 H W) := by
  refine (concatenate_ofFn_apply (t := ⟨5, ![2, 5, N, 64, 2048]⟩) (s₁ := ⟨5, ![2, 5, k, 64, 2048]⟩) 2 _ _ rfl k rfl (ix5 b ch s H W) n hn
    (ix5 b ch m H W) hm.symm ?_).trans (concatenate_ofFn_unit_apply (t := ⟨5, ![2, 5, k, 64, 2048]⟩) (s₁ := ⟨5, ![2, 5, 1, 64, 2048]⟩) 2 _ _ rfl rfl
    (ix5 b ch m H W) m rfl (ix5 b ch 0 H W) ?_)
  · intro a ha
    match a with
    | 0 => rfl
    | 1 => rfl
    | 2 => exact absurd rfl ha
    | 3 => rfl
    | 4 => rfl
  · intro a ha
    match a with
    | 0 => rfl
    | 1 => rfl
    | 2 => exact absurd rfl ha
    | 3 => rfl
    | 4 => rfl

end Cert.KernelIdeal.Knn
-- ==== Proof.HostValue.lean ====
/-
  The arrays the grid runs over, as the host operations before it leave them: both images framed by zeros and stacked,
  one copy per column offset, and both weights in rows with zeros after them. And each of them read at a place.
-/
module

public import proofs.«01_k».proof.Proof.Launch
public import proofs.«01_k».proof.Proof.Reads
public import Idealize.ShloMosaic.Lib.StableHlo.ReadAt

@[expose] public section

noncomputable section

namespace Cert.KernelIdeal.Knn

open Idealize.ShloMosaic Idealize.ShloMosaic.TcCoe
open Cert.KernelIdeal.Gen

variable (m : (ℓ : Loc nD τ sig) → Buf (Elt Ideal) ℓ)

/-- The image in its frame of zeros. -/
abbrev framed (x : FVec Ideal S2x5x64x2048 .f32) : FVec Ideal S2x5x80x2182 .f32 :=
  pad S2x5x80x2182 ![0, 0, 3, 3] ![0, 0, 13, 131] ![0, 0, 0, 0] x (sitofp (F := Ideal) .f32 (constantI S_ 32 0#32)) pads_S2x5x64x2048_S2x5x80x2182_000_000_3130_31310 h_S_

/-- The framed image from column `o` on, as one piece of the stack. -/
abbrev moved (o : ℕ) (hs : S2x5x80x2182.Slices ![0, 0, 0, o] S2x5x80x2176) (y : FVec Ideal S2x5x80x2182 .f32) : FVec Ideal S1x2x5x80x2176 .f32 :=
  broadcastInDim S1x2x5x80x2176 ![1, 2, 3, 4] bcast_S2x5x80x2176_S1x2x5x80x2176_1_2_3_4 (extractStridedSlice S2x5x80x2176 ![0, 0, 0, o] y hs)

/-- The weights in rows, three zeros after each. -/
abbrev grown (w : FVec Ideal S5x32x3x3 .f32) : FVec Ideal S32x48 .f32 :=
  pad S32x48 ![0, 0] ![0, 3] ![0, 0] (shapeCast S32x45 w shapeCasts_S5x32x3x3_S32x45) (sitofp (F := Ideal) .f32 (constantI S_ 32 0#32)) pads_S32x45_S32x48_000_030 h_S_

/-- Stacks of equal pieces are equal. -/
theorem stack5_of {A0 A1 A2 A3 A4 B0 B1 B2 B3 B4 : FVec Ideal S1x2x5x80x2176 .f32}
    (h0 : A0 = B0) (h1 : A1 = B1) (h2 : A2 = B2) (h3 : A3 = B3) (h4 : A4 = B4) :
    concatenate S5x2x5x80x2176 0 [⟨S1x2x5x80x2176, A0⟩, ⟨S1x2x5x80x2176, A1⟩, ⟨S1x2x5x80x2176, A2⟩, ⟨S1x2x5x80x2176, A3⟩, ⟨S1x2x5x80x2176, A4⟩] concatenates_S1x2x5x80x2176_S1x2x5x80x2176_S1x2x5x80x2176_S1x2x5x80x2176_S1x2x5x80x2176_S5x2x5x80x2176_d0
      = concatenate S5x2x5x80x2176 0 [⟨S1x2x5x80x2176, B0⟩, ⟨S1x2x5x80x2176, B1⟩, ⟨S1x2x5x80x2176, B2⟩, ⟨S1x2x5x80x2176, B3⟩, ⟨S1x2x5x80x2176, B4⟩] concatenates_S1x2x5x80x2176_S1x2x5x80x2176_S1x2x5x80x2176_S1x2x5x80x2176_S1x2x5x80x2176_S5x2x5x80x2176_d0 := by
  subst h0 h1 h2 h3 h4; rfl

/-- Stacks of equal pieces are equal. -/
theorem stack7_of {A0 A1 A2 A3 A4 A5 A6 B0 B1 B2 B3 B4 B5 B6 : FVec Ideal S1x2x5x80x2176 .f32}
    (h0 : A0 = B0) (h1 : A1 = B1) (h2 : A2 = B2) (h3 : A3 = B3) (h4 : A4 = B4) (h5 : A5 = B5) (h6 : A6 = B6) :
    concatenate S7x2x5x80x2176 0 [⟨S1x2x5x80x2176, A0⟩, ⟨S1x2x5x80x2176, A1⟩, ⟨S1x2x5x80x2176, A2⟩, ⟨S1x2x5x80x2176, A3⟩, ⟨S1x2x5x80x2176, A4⟩, ⟨S1x2x5x80x2176, A5⟩, ⟨S1x2x5x80x2176, A6⟩] concatenates_S1x2x5x80x2176_S1x2x5x80x2176_S1x2x5x80x2176_S1x2x5x80x2176_S1x2x5x80x2176_S1x2x5x80x2176_S1x2x5x80x2176_S7x2x5x80x2176_d0
      = concatenate S7x2x5x80x2176 0 [⟨S1x2x5x80x2176, B0⟩, ⟨S1x2x5x80x2176, B1⟩, ⟨S1x2x5x80x2176, B2⟩, ⟨S1x2x5x80x2176, B3⟩, ⟨S1x2x5x80x2176, B4⟩, ⟨S1x2x5x80x2176, B5⟩, ⟨S1x2x5x80x2176, B6⟩] concatenates_S1x2x5x80x2176_S1x2x5x80x2176_S1x2x5x80x2176_S1x2x5x80x2176_S1x2x5x80x2176_S1x2x5x80x2176_S1x2x5x80x2176_S7x2x5x80x2176_d0 := by
  subst h0 h1 h2 h3 h4 h5 h6; rfl

/-- The first image, stacked. -/
theorem host_x (c : Dev nD) : V m c main_v12 = concatenate S5x2x5x80x2176 0
    [⟨S1x2x5x80x2176, moved 1 slices_S2x5x80x2182_S2x5x80x2176_0_0_0_1 (framed (m ((c : Thread nD τ).loc main_arg0)))⟩,
      ⟨S1x2x5x80x2176, moved 2 slices_S2x5x80x2182_S2x5x80x2176_0_0_0_2 (framed (m ((c : Thread nD τ).loc main_arg0)))⟩,
      ⟨S1x2x5x80x2176, moved 3 slices_S2x5x80x2182_S2x5x80x2176_0_0_0_3 (framed (m ((c : Thread nD τ).loc main_arg0)))⟩,
      ⟨S1x2x5x80x2176, moved 4 slices_S2x5x80x2182_S2x5x80x2176_0_0_0_4 (framed (m ((c : Thread nD τ).loc main_arg0)))⟩,
      ⟨S1x2x5x80x2176, moved 5 slices_S2x5x80x2182_S2x5x80x2176_0_0_0_5 (framed (m ((c : Thread nD τ).loc main_arg0)))⟩]
    concatenates_S1x2x5x80x2176_S1x2x5x80x2176_S1x2x5x80x2176_S1x2x5x80x2176_S1x2x5x80x2176_S5x2x5x80x2176_d0 := by
  unfold V
  simp only [List.flatten_cons, List.flatten_nil, List.append_nil, List.cons_append, List.nil_append, hostOps0, hostOps0_1, hostOps0_2, hostOps0_3, hostOps0_4, hostOps0_5, hostOps0_6, hostOps0_7]
  after_reads_simp
  refine stack5_of ?_ ?_ ?_ ?_ ?_
  all_goals
    dsimp only [Matrix.cons_val]
    after_reads_simp
    rfl

/-- The second image, stacked. -/
theorem host_p (c : Dev nD) : V m c main_v27 = concatenate S7x2x5x80x2176 0
    [⟨S1x2x5x80x2176, moved 0 slices_S2x5x80x2182_S2x5x80x2176_0_0_0_0 (framed (m ((c : Thread nD τ).loc main_arg1)))⟩,
      ⟨S1x2x5x80x2176, moved 1 slices_S2x5x80x2182_S2x5x80x2176_0_0_0_1 (framed (m ((c : Thread nD τ).loc main_arg1)))⟩,
      ⟨S1x2x5x80x2176, moved 2 slices_S2x5x80x2182_S2x5x80x2176_0_0_0_2 (framed (m ((c : Thread nD τ).loc main_arg1)))⟩,
      ⟨S1x2x5x80x2176, moved 3 slices_S2x5x80x2182_S2x5x80x2176_0_0_0_3 (framed (m ((c : Thread nD τ).loc main_arg1)))⟩,
      ⟨S1x2x5x80x2176, moved 4 slices_S2x5x80x2182_S2x5x80x2176_0_0_0_4 (framed (m ((c : Thread nD τ).loc main_arg1)))⟩,
      ⟨S1x2x5x80x2176, moved 5 slices_S2x5x80x2182_S2x5x80x2176_0_0_0_5 (framed (m ((c : Thread nD τ).loc main_arg1)))⟩,
      ⟨S1x2x5x80x2176, moved 6 slices_S2x5x80x2182_S2x5x80x2176_0_0_0_6 (framed (m ((c : Thread nD τ).loc main_arg1)))⟩]
    concatenates_S1x2x5x80x2176_S1x2x5x80x2176_S1x2x5x80x2176_S1x2x5x80x2176_S1x2x5x80x2176_S1x2x5x80x2176_S1x2x5x80x2176_S7x2x5x80x2176_d0 := by
  unfold V
  simp only [List.flatten_cons, List.flatten_nil, List.append_nil, List.cons_append, List.nil_append, hostOps0, hostOps0_1, hostOps0_2, hostOps0_3, hostOps0_4, hostOps0_5, hostOps0_6, hostOps0_7]
  after_reads_simp
  refine stack7_of ?_ ?_ ?_ ?_ ?_ ?_ ?_
  all_goals
    dsimp only [Matrix.cons_val]
    after_reads_simp
    rfl

/-- The first weights. -/
theorem host_w (c : Dev nD) : V m c main_v29 = grown (m ((c : Thread nD τ).loc main_arg2)) := by
  unfold V
  simp only [List.flatten_cons, List.flatten_nil, List.append_nil, List.cons_append, List.nil_append, hostOps0, hostOps0_1, hostOps0_2, hostOps0_3, hostOps0_4, hostOps0_5, hostOps0_6, hostOps0_7]
  after_reads_simp
  rfl

/-- The second weights. -/
theorem host_w2 (c : Dev nD) : V m c main_v31 = grown (m ((c : Thread nD τ).loc main_arg3)) := by
  unfold V
  simp only [List.flatten_cons, List.flatten_nil, List.append_nil, List.cons_append, List.nil_append, hostOps0, hostOps0_1, hostOps0_2, hostOps0_3, hostOps0_4, hostOps0_5, hostOps0_6, hostOps0_7]
  after_reads_simp
  rfl

/-- The value every frame is filled with. -/
theorem zero_at (i : S_.Idx) : (sitofp (F := Ideal) .f32 (constantI S_ 32 0#32) : FVec Ideal S_ .f32) i = (0 : EReal) := by
  show (((0#32 : BitVec 32).toInt : ℝ) : EReal) = 0
  norm_num

/-- A piece of the stack is the image `o` columns on. -/
theorem moved_apply (o : ℕ) (ho : o < 7) (hs : S2x5x80x2182.Slices ![0, 0, 0, o] S2x5x80x2176) (y : FVec Ideal S2x5x80x2182 .f32)
    (b : Fin 2) (ch : Fin 5) (i : Fin 80) (j : Fin 2176) : moved o hs y (ix5 0 b ch i j) = y (ix4 b ch i ⟨j.val + o, by omega⟩) := by
  refine congrArg y (funext fun a => Fin.ext ?_)
  match a with
  | 0 => exact Nat.zero_add _
  | 1 => exact Nat.zero_add _
  | 2 => exact Nat.zero_add _
  | 3 => exact Nat.add_comm _ _

/-- A piece of the stack of a framed image, read. -/
theorem moved_at (o : ℕ) (ho : o < 7) (hs : S2x5x80x2182.Slices ![0, 0, 0, o] S2x5x80x2176) (x : FVec Ideal S2x5x64x2048 .f32)
    (b : Fin 2) (ch : Fin 5) (i : Fin 80) (j : Fin 2176) : moved o hs (framed x) (ix5 0 b ch i j) = pix x b ch i.val (j.val + o) :=
  (moved_apply o ho hs (framed x) b ch i j).trans
    (pad_image (k := 3) (le_refl 3) ![0, 0, 13, 131] x _ zero_at _ _ b ch i ⟨j.val + o, by omega⟩)

/-- The stack, read: piece `dj` of it. -/
theorem stack5_at {A0 A1 A2 A3 A4 : FVec Ideal S1x2x5x80x2176 .f32} (dj : Fin 5) (b : Fin 2) (ch : Fin 5) (i : Fin 80) (j : Fin 2176) :
    concatenate S5x2x5x80x2176 0 [⟨S1x2x5x80x2176, A0⟩, ⟨S1x2x5x80x2176, A1⟩, ⟨S1x2x5x80x2176, A2⟩, ⟨S1x2x5x80x2176, A3⟩, ⟨S1x2x5x80x2176, A4⟩] concatenates_S1x2x5x80x2176_S1x2x5x80x2176_S1x2x5x80x2176_S1x2x5x80x2176_S1x2x5x80x2176_S5x2x5x80x2176_d0 (ix5 dj b ch i j)
      = (![A0, A1, A2, A3, A4] : Fin 5 → FVec Ideal S1x2x5x80x2176 .f32) dj (ix5 0 b ch i j) := by
  refine concatenate_ofFn_unit_apply (t := S5x2x5x80x2176) (s₁ := S1x2x5x80x2176) 0 (![A0, A1, A2, A3, A4] : Fin 5 → FVec Ideal S1x2x5x80x2176 .f32) concatenates_S1x2x5x80x2176_S1x2x5x80x2176_S1x2x5x80x2176_S1x2x5x80x2176_S1x2x5x80x2176_S5x2x5x80x2176_d0 rfl rfl (ix5 dj b ch i j) dj rfl (ix5 0 b ch i j) fun a ha => ?_
  match a with
  | 0 => exact absurd rfl ha
  | 1 => rfl
  | 2 => rfl
  | 3 => rfl
  | 4 => rfl

/-- The stack, read: piece `dj` of it. -/
theorem stack7_at {A0 A1 A2 A3 A4 A5 A6 : FVec Ideal S1x2x5x80x2176 .f32} (dj : Fin 7) (b : Fin 2) (ch : Fin 5) (i : Fin 80) (j : Fin 2176) :
    concatenate S7x2x5x80x2176 0 [⟨S1x2x5x80x2176, A0⟩, ⟨S1x2x5x80x2176, A1⟩, ⟨S1x2x5x80x2176, A2⟩, ⟨S1x2x5x80x2176, A3⟩, ⟨S1x2x5x80x2176, A4⟩, ⟨S1x2x5x80x2176, A5⟩, ⟨S1x2x5x80x2176, A6⟩] concatenates_S1x2x5x80x2176_S1x2x5x80x2176_S1x2x5x80x2176_S1x2x5x80x2176_S1x2x5x80x2176_S1x2x5x80x2176_S1x2x5x80x2176_S7x2x5x80x2176_d0 (ix5 dj b ch i j)
      = (![A0, A1, A2, A3, A4, A5, A6] : Fin 7 → FVec Ideal S1x2x5x80x2176 .f32) dj (ix5 0 b ch i j) := by
  refine concatenate_ofFn_unit_apply (t := S7x2x5x80x2176) (s₁ := S1x2x5x80x2176) 0 (![A0, A1, A2, A3, A4, A5, A6] : Fin 7 → FVec Ideal S1x2x5x80x2176 .f32) concatenates_S1x2x5x80x2176_S1x2x5x80x2176_S1x2x5x80x2176_S1x2x5x80x2176_S1x2x5x80x2176_S1x2x5x80x2176_S1x2x5x80x2176_S7x2x5x80x2176_d0 rfl rfl (ix5 dj b ch i j) dj rfl (ix5 0 b ch i j) fun a ha => ?_
  match a with
  | 0 => exact absurd rfl ha
  | 1 => rfl
  | 2 => rfl
  | 3 => rfl
  | 4 => rfl

/-- The first image's stack at a place is the framed image, `dj + 1` columns on. -/
theorem host_x_at (c : Dev nD) (dj : Fin 5) (b : Fin 2) (ch : Fin 5) (i : Fin 80) (j : Fin 2176) :
    V m c main_v12 (ix5 dj b ch i j) = pix (m ((c : Thread nD τ).loc main_arg0)) b ch i.val (j.val + dj.val + 1) := by
  refine (congrFun (host_x m c) _).trans ((stack5_at dj b ch i j).trans ?_)
  match dj with
  | 0 => exact moved_at 1 (by omega) slices_S2x5x80x2182_S2x5x80x2176_0_0_0_1 _ b ch i j
  | 1 => exact moved_at 2 (by omega) slices_S2x5x80x2182_S2x5x80x2176_0_0_0_2 _ b ch i j
  | 2 => exact moved_at 3 (by omega) slices_S2x5x80x2182_S2x5x80x2176_0_0_0_3 _ b ch i j
  | 3 => exact moved_at 4 (by omega) slices_S2x5x80x2182_S2x5x80x2176_0_0_0_4 _ b ch i j
  | 4 => exact moved_at 5 (by omega) slices_S2x5x80x2182_S2x5x80x2176_0_0_0_5 _ b ch i j

/-- The second image's stack at a place is the framed image, `dj` columns on. -/
theorem host_p_at (c : Dev nD) (dj : Fin 7) (b : Fin 2) (ch : Fin 5) (i : Fin 80) (j : Fin 2176) :
    V m c main_v27 (ix5 dj b ch i j) = pix (m ((c : Thread nD τ).loc main_arg1)) b ch i.val (j.val + dj.val) := by
  refine (congrFun (host_p m c) _).trans ((stack7_at dj b ch i j).trans ?_)
  match dj with
  | 0 => exact moved_at 0 (by omega) slices_S2x5x80x2182_S2x5x80x2176_0_0_0_0 _ b ch i j
  | 1 => exact moved_at 1 (by omega) slices_S2x5x80x2182_S2x5x80x2176_0_0_0_1 _ b ch i j
  | 2 => exact moved_at 2 (by omega) slices_S2x5x80x2182_S2x5x80x2176_0_0_0_2 _ b ch i j
  | 3 => exact moved_at 3 (by omega) slices_S2x5x80x2182_S2x5x80x2176_0_0_0_3 _ b ch i j
  | 4 => exact moved_at 4 (by omega) slices_S2x5x80x2182_S2x5x80x2176_0_0_0_4 _ b ch i j
  | 5 => exact moved_at 5 (by omega) slices_S2x5x80x2182_S2x5x80x2176_0_0_0_5 _ b ch i j
  | 6 => exact moved_at 6 (by omega) slices_S2x5x80x2182_S2x5x80x2176_0_0_0_6 _ b ch i j

/-- Weights in rows, read: row `o`, column `9 c + j`. -/
theorem grown_at (w : FVec Ideal S5x32x3x3 .f32) (o : Fin 32) (c : Fin 5) (j : Fin 9) : grown w (ix2 o (grow c j)) = wt w o c j := by
  have hc : c.val * 9 + j.val < 45 := by omega
  have e : grown w (ix2 o (grow c j)) = shapeCast S32x45 w shapeCasts_S5x32x3x3_S32x45 (ix2 o ⟨c.val * 9 + j.val, hc⟩) := by
    unfold grown pad
    rw [dif_pos]
    · congr 1
      funext a
      match a with
      | 0 => exact Fin.ext (show (o.val - 0) / (0 + 1) = o.val by omega)
      | 1 => exact Fin.ext (show (c.val * 9 + j.val - 0) / (0 + 1) = c.val * 9 + j.val by omega)
    · intro a
      match a with
      | 0 => exact ⟨Nat.zero_le _, Nat.mod_one _, show (o.val - 0) / (0 + 1) < 32 by omega⟩
      | 1 => exact ⟨Nat.zero_le _, Nat.mod_one _, show (c.val * 9 + j.val - 0) / (0 + 1) < 45 by omega⟩
  have hz : (⟨3, ![32, 5, 9]⟩ : Shape).ShapeCasts S32x45 := by decide
  refine (e.trans (congrFun (shapeCast_comp w casts_wgt hz) _).symm).trans ?_
  refine shapeCast_apply (shapeCast ⟨3, ![32, 5, 9]⟩ w casts_wgt) hz _ (ix3 o c j) ?_
  rw [Shape.rowMajor_val_three, Shape.rowMajor_val_two]
  show (o.val * 5 + c.val) * 9 + j.val = o.val * 45 + (c.val * 9 + j.val)
  omega

theorem host_w_at (c : Dev nD) (o : Fin 32) (ch : Fin 5) (j : Fin 9) : V m c main_v29 (ix2 o (grow ch j)) = wt (m ((c : Thread nD τ).loc main_arg2)) o ch j :=
  (congrFun (host_w m c) _).trans (grown_at _ o ch j)

theorem host_w2_at (c : Dev nD) (o : Fin 32) (ch : Fin 5) (j : Fin 9) : V m c main_v31 (ix2 o (grow ch j)) = wt (m ((c : Thread nD τ).loc main_arg3)) o ch j :=
  (congrFun (host_w2 m c) _).trans (grown_at _ o ch j)

end Cert.KernelIdeal.Knn
-- ==== Proof.TileValue.lean ====
/-
  One grid point's blocks of results, pixel by pixel: what the model computes from input blocks that
  show the padded images and the weights is the pixel's result of the problem.
-/
module

public import Idealize.ShloMosaic.Lib.Pointwise
public import Idealize.ShloMosaic.Lib.Pipeline.Value
public import proofs.«01_k».proof.Proof.Spec

@[expose] public section

noncomputable section

namespace Cert.KernelIdeal.Knn

open Idealize.ShloMosaic
open Cert.KernelIdeal.Gen

/-- The product with the weights, a row's share at a time. -/
theorem mm_at (w : FVec Ideal S32x48 .f32) (g : FVec Ideal S48x8x128 .f32) (o : Fin 32) (a : Fin 8) (l : Fin 128) :
    (mm (F := Ideal) w g : FVec Ideal S1x32x8x128 .f32) (ix4 0 o a l) = (max (∑ r : Fin 48, (w (ix2 o r) : EReal) * (g (ix3 r a l) : EReal)) 0 : EReal) := by
  unfold mm
  pointwise

theorem flat_at (Z : FVec Ideal S1x1x1x8x128 .f32) (a : Fin 8) (l : Fin 128) :
    shapeCast S8x128 Z shapeCasts_S1x1x1x8x128_S8x128 (ix2 a l) = Z (ix5 0 0 0 a l) := by
  pointwise

theorem chan_block (X : Vec Ideal S1x1x5x8x128 .f32) (ch : Fin 5) (a : Fin 8) (l : Fin 128) :
    (shapeCast S8x128 (VecWindow.window X ![0, 0, ch.val, 0, 0] S1x1x1x8x128.size (chan_inb ch) : Vec Ideal S1x1x1x8x128 .f32) shapeCasts_S1x1x1x8x128_S8x128 :
      FVec Ideal S8x128 .f32) (ix2 a l) = X (ix5 0 0 ch a l) := by
  refine (flat_at _ a l).trans ?_
  refine congrArg X (funext fun e => Fin.ext ?_)
  match e with
  | 0 => rfl
  | 1 => rfl
  | 2 => rfl
  | 3 => exact (Nat.zero_add _).trans (Nat.one_mul _)
  | 4 => exact (Nat.zero_add _).trans (Nat.one_mul _)

/-- A channel's rows above one another: row `i` is row `i % 8` of the upper or the lower block. -/
theorem col_at (X : Blocks Ideal) (ch : Fin 5) (i : Fin 16) (l : Fin 128) (h : Fin 2) (a : Fin 8) (hi : i.val = 8 * h.val + a.val) :
    (col X ch : FVec Ideal S16x128 .f32) (ix2 i l) = X h (ix5 0 0 ch a l) := by
  unfold col stack2
  match h, hi with
  | 0, hi =>
    refine (concatenate_pair_apply_left (t := S16x128) (s₁ := S8x128) (s₂ := S8x128) 0 _ _ _ (ix2 i l) rfl (ix2 (n0 := 8) (n1 := 128) a l) fun e => ?_).trans (chan_block (X 0) ch a l)
    match e with
    | 0 => exact (hi.trans (Nat.zero_add _)).symm
    | 1 => rfl
  | 1, hi =>
    refine (concatenate_pair_apply_right (t := S16x128) (s₁ := S8x128) (s₂ := S8x128) 0 _ _ _ (ix2 i l) rfl rfl (ix2 (n0 := 8) (n1 := 128) a l) (fun e he => ?_) ?_).trans (chan_block (X 1) ch a l)
    · match e with
      | 0 => exact absurd rfl he
      | 1 => rfl
    · exact (Nat.add_comm _ _).trans hi.symm

/-- A row of a tile cut out of a channel. -/
theorem rows_at (v : FVec Ideal S16x128 .f32) (d : Fin 8) (a : Fin 8) (l : Fin 128) (i : Fin 16) (hi : d.val + a.val = i.val) :
    (rows v d : FVec Ideal S8x128 .f32) (ix2 a l) = v (ix2 i l) := by
  refine congrArg v (funext fun e => Fin.ext ?_)
  match e with
  | 0 => exact hi
  | 1 => exact Nat.zero_add _

/-- The 45 rows of the sum as five channels of nine neighbours, the last three rows adding nothing. -/
theorem sum_rows (f : Fin 48 → EReal) (h0 : ∀ r : Fin 48, 45 ≤ r.val → f r = 0) :
    ∑ r, f r = ∑ c : Fin 5, ∑ j : Fin 9, f (grow c j) := by
  refine (Fin.sum_univ_add (a := 45) (b := 3) f).trans ?_
  have h2 : ∑ i : Fin 3, f (Fin.natAdd 45 i) = 0 := Finset.sum_eq_zero fun i _ => h0 (Fin.natAdd 45 i) (Nat.le_add_right _ _)
  rw [h2, add_zero, ← Fintype.sum_prod_type']
  refine (Fintype.sum_equiv (finProdFinEquiv (m := 5) (n := 9)) _ _ fun q => ?_).symm
  refine congrArg f (Fin.ext ?_)
  show q.1.val * 9 + q.2.val = q.2.val + 9 * q.1.val
  omega

theorem rad_at (x y z : FVec Ideal S8x128 .f32) (i : S8x128.Idx) : (radius x y z : FVec Ideal S8x128 .f32) i = rad (x i) (y i) (z i) := rfl
theorem ang_at (x y z : FVec Ideal S8x128 .f32) (i : S8x128.Idx) : (angle x y z : FVec Ideal S8x128 .f32) i = ang (x i) (y i) (z i) := rfl
theorem ang2_at (x y z : FVec Ideal S8x128 .f32) (i : S8x128.Idx) : (angle2 x y z : FVec Ideal S8x128 .f32) i = ang2 (x i) (y i) (z i) := rfl

/-- The input blocks of the grid point whose tile starts at row `H0` and column `W0` of image `b`. -/
structure Shows (I : Ins Ideal) (x p : Img) (w w2 : Wgt) (b : Fin 2) (H0 W0 : ℕ) : Prop where
  x_at : ∀ (dj : Fin 5) (h : Fin 2) (ch : Fin 5) (a : Fin 8) (l : Fin 128),
    I.x dj h (ix5 0 0 ch a l) = pix x b ch (H0 + (8 * h.val + a.val)) (W0 + l.val + dj.val + 1)
  p_at : ∀ (dj : Fin 7) (h : Fin 2) (ch : Fin 5) (a : Fin 8) (l : Fin 128),
    I.p dj h (ix5 0 0 ch a l) = pix p b ch (H0 + (8 * h.val + a.val)) (W0 + l.val + dj.val)
  w_at : ∀ (o : Fin 32) (c : Fin 5) (j : Fin 9), I.w (ix2 o (grow c j)) = wt w o c j
  pw_at : ∀ (o : Fin 32) (c : Fin 5) (j : Fin 9), I.pw (ix2 o (grow c j)) = wt w2 o c j

namespace Shows

variable {I : Ins Ideal} {x p : Img} {w w2 : Wgt} {b : Fin 2} {H0 W0 : ℕ} (hI : Shows I x p w w2 b H0 W0) (a : Fin 8) (l : Fin 128)

include hI

theorem xrow (dj : Fin 5) (ch : Fin 5) (d : Fin 8) :
    (rows (col (I.x dj) ch) d : FVec Ideal S8x128 .f32) (ix2 a l) = pix x b ch (H0 + a.val + d.val) (W0 + l.val + dj.val + 1) := by
  rw [rows_at _ d a l ⟨d.val + a.val, by omega⟩ rfl, col_at _ ch _ l ⟨(d.val + a.val) / 8, by omega⟩ ⟨(d.val + a.val) % 8, by omega⟩ (Nat.div_add_mod _ 8).symm,
    hI.x_at]
  congr 1
  simp only
  omega

theorem prow (dj : Fin 7) (ch : Fin 5) (d : Fin 8) :
    (rows (col (I.p dj) ch) d : FVec Ideal S8x128 .f32) (ix2 a l) = pix p b ch (H0 + a.val + d.val) (W0 + l.val + dj.val) := by
  rw [rows_at _ d a l ⟨d.val + a.val, by omega⟩ rfl, col_at _ ch _ l ⟨(d.val + a.val) / 8, by omega⟩ ⟨(d.val + a.val) % 8, by omega⟩ (Nat.div_add_mod _ 8).symm,
    hI.p_at]
  congr 1
  simp only
  omega

theorem win5_eq : I.win5 (ix2 a l) = around5 x b (H0 + a.val) (W0 + l.val) :=
  funext fun ch => funext fun s => hI.xrow a l (sj5 s) ch (row5 (si5 s))

theorem win7_eq : I.win7 (ix2 a l) = around7 p b (H0 + a.val) (W0 + l.val) :=
  funext fun ch => funext fun s => hI.prow a l (sj7 s) ch (row7 (si7 s))

theorem center_eq (ch : Fin 5) : (I.center ch : FVec Ideal S8x128 .f32) (ix2 a l) = here x b (H0 + a.val) (W0 + l.val) ch :=
  hI.xrow a l 2 ch 3

theorem near5_eq (hx : Finite0 x) (ch : Fin 5) (j : Fin 9) :
    (I.near5 ch j : FVec Ideal S8x128 .f32) (ix2 a l) = near5 x b (H0 + a.val) (W0 + l.val) ch j := by
  have ht : Tame (I.win5 (ix2 a l) 0) (I.center 0 (ix2 a l)) := by
    rw [hI.win5_eq, hI.center_eq]; exact hx.tame5 b _ _
  refine (I.near5_at (ix2 a l) ht ch j).trans ?_
  rw [hI.win5_eq, hI.center_eq]
  rfl

theorem near7_eq (hx : Finite0 x) (hp : Finite0 p) (ch : Fin 5) (j : Fin 9) :
    (I.near7 ch j : FVec Ideal S8x128 .f32) (ix2 a l) = near7 x p b (H0 + a.val) (W0 + l.val) ch j := by
  have ht : Tame (I.win7 (ix2 a l) 0) (I.center 0 (ix2 a l)) := by
    rw [hI.win7_eq, hI.center_eq]; exact hx.tame7 hp b _ _
  refine (I.near7_at (ix2 a l) ht ch j).trans ?_
  rw [hI.win7_eq, hI.center_eq]
  rfl

theorem polar7_eq (hx : Finite0 x) (hp : Finite0 p) (ch : Fin 5) (j : Fin 9) :
    (I.polar7 ch j : FVec Ideal S8x128 .f32) (ix2 a l) = polarAt x p b (H0 + a.val) (W0 + l.val) ch j := by
  have hd : ∀ c : Fin 5, (subf (I.near7 c j) (I.center c) : FVec Ideal S8x128 .f32) (ix2 a l) =
      (near7 x p b (H0 + a.val) (W0 + l.val) c j - here x b (H0 + a.val) (W0 + l.val) c : EReal) := fun c =>
    congrArg₂ (fun d e : EReal => d - e) (hI.near7_eq a l hx hp c j) (hI.center_eq a l c)
  unfold polarAt Ins.polar7
  by_cases h1 : ch = 1
  · rw [if_pos h1, if_pos h1, rad_at, hd, hd, hd]
  by_cases h2 : ch = 2
  · rw [if_neg h1, if_neg h1, if_pos h2, if_pos h2, ang_at, hd, hd, hd]
  by_cases h3 : ch = 3
  · rw [if_neg h1, if_neg h1, if_neg h2, if_neg h2, if_pos h3, if_pos h3, ang2_at, hd, hd, hd]
  rw [if_neg h1, if_neg h1, if_neg h2, if_neg h2, if_neg h3, if_neg h3]
  exact hI.near7_eq a l hx hp ch j

theorem giV_zero (r : Fin 48) (hr : 45 ≤ r.val) : (unplane I.giV : FVec Ideal S48x8x128 .f32) (ix3 r a l) = (0 : EReal) := by
  show (I.giV r : FVec Ideal S8x128 .f32) (ix2 a l) = (0 : EReal)
  unfold Ins.giV
  rw [if_neg (by omega)]
  exact Ideal.ofBits_zero_f32

theorem gqV_zero (r : Fin 48) (hr : 45 ≤ r.val) : (unplane I.gqV : FVec Ideal S48x8x128 .f32) (ix3 r a l) = (0 : EReal) := by
  show (I.gqV r : FVec Ideal S8x128 .f32) (ix2 a l) = (0 : EReal)
  unfold Ins.gqV
  rw [if_neg (by omega)]
  exact Ideal.ofBits_zero_f32

/-- The first result's block. -/
theorem out_at (hx : Finite0 x) (o : Fin 32) :
    (I.outV : FVec Ideal S1x32x8x128 .f32) (ix4 0 o a l) = res1 x w b o (H0 + a.val) (W0 + l.val) := by
  unfold Ins.outV
  refine (mm_at _ _ o a l).trans ?_
  rw [sum_rows _ fun r hr => by rw [hI.giV_zero a l r hr, mul_zero]]
  unfold res1 mix
  refine congrArg (fun e : EReal => max e 0) (Finset.sum_congr rfl fun c _ => Finset.sum_congr rfl fun j _ => ?_)
  refine congrArg₂ (fun d e : EReal => d * e) (hI.w_at o c j) ?_
  show (I.giV (grow c j) : FVec Ideal S8x128 .f32) (ix2 a l) = _
  rw [I.giV_grow]
  exact hI.near5_eq a l hx c j

/-- The second result's block. -/
theorem pout_at (hx : Finite0 x) (hp : Finite0 p) (o : Fin 32) :
    (I.poutV : FVec Ideal S1x32x8x128 .f32) (ix4 0 o a l) = res2 x p w2 b o (H0 + a.val) (W0 + l.val) := by
  unfold Ins.poutV
  refine (mm_at _ _ o a l).trans ?_
  rw [sum_rows _ fun r hr => by rw [hI.gqV_zero a l r hr, mul_zero]]
  unfold res2 mix
  refine congrArg (fun e : EReal => max e 0) (Finset.sum_congr rfl fun c _ => Finset.sum_congr rfl fun j _ => ?_)
  refine congrArg₂ (fun d e : EReal => d * e) (hI.pw_at o c j) ?_
  show (I.gqV (grow c j) : FVec Ideal S8x128 .f32) (ix2 a l) = _
  rw [I.gqV_grow]
  exact hI.polar7_eq a l hx hp c j

end Shows

end Cert.KernelIdeal.Knn
-- ==== Proof.Blocks.lean ====
/-
  The blocks a grid point reads, at places of the images and weights, and the arrays of results the points leave.
-/
module

public import proofs.«01_k».proof.Proof.HostValue
public import proofs.«01_k».proof.Proof.TileValue
public import Idealize.ShloMosaic.Lib.Pipeline.ValueKit

@[expose] public section

noncomputable section

namespace Cert.KernelIdeal.Knn

open Idealize.ShloMosaic Idealize.ShloMosaic.TcCoe
open Idealize.ShloMosaic.Pipeline (Dat Cfg Window BodyObligation cellOf)
open Cert.KernelIdeal.Gen

variable (m : (ℓ : Loc nD τ sig) → Buf (Elt Ideal) ℓ)

/-- The batch, the row block and the column block of a grid point. -/
abbrev gb (t : Fin cfg0.N) : Fin 2 := grid0.coords t 0
abbrev gh (t : Fin cfg0.N) : Fin 8 := grid0.coords t 1
abbrev gw (t : Fin cfg0.N) : Fin 16 := grid0.coords t 2

/-- Row `8 (h + dh) + a` and column `128 w + l` of a stacked image. -/
abbrev rowOf (t : Fin cfg0.N) (dh : Fin 2) (a : Fin 8) : Fin 80 := ⟨8 * ((gh t).val + dh.val) + a.val, by omega⟩
abbrev colOf (t : Fin cfg0.N) (l : Fin 128) : Fin 2176 := ⟨128 * (gw t).val + l.val, by omega⟩

/-- Where a block of a stacked image lies: its element's place, from the block's. -/
theorem placed {n : ℕ} (X : (⟨5, ![n, 2, 5, 80, 2176]⟩ : Shape).Idx → EReal) (t : Fin cfg0.N) (dj : Fin n) (dh : Fin 2)
    (e : S1x1x5x8x128.Idx → (⟨5, ![n, 2, 5, 80, 2176]⟩ : Shape).Idx) (f : Fin 5 → ℕ)
    (he : ∀ y k, (e y k : ℕ) = f k * S1x1x5x8x128.size k + (y k : ℕ))
    (hf : f = ![dj.val, (gb t).val, 0, (gh t).val + dh.val, (gw t).val]) (ch : Fin 5) (a : Fin 8) (l : Fin 128) :
    X (e (ix5 0 0 ch a l)) = X (ix5 dj (gb t) ch (rowOf t dh a) (colOf t l)) := by
  subst hf
  refine congrArg X (funext fun k => Fin.ext ((he _ k).trans ?_))
  match k with
  | 0 => show dj.val * 1 + 0 = dj.val; omega
  | 1 => show (gb t).val * 1 + 0 = (gb t).val; omega
  | 2 => show 0 * 5 + ch.val = ch.val; omega
  | 3 => show ((gh t).val + dh.val) * 8 + a.val = 8 * ((gh t).val + dh.val) + a.val; omega
  | 4 => show (gw t).val * 128 + l.val = 128 * (gw t).val + l.val; omega

/-- The block an index map names, its words read as numbers. -/
theorem words_at (d e : BitVec 32) (he : e.toNat < 2) (b h w : ℕ) (hb : b < 2) (hh : h < 8) (hw : w < 16) :
    (![d.toNat, (BitVec.ofNat 32 b).toNat, (0#32).toNat, (Scalar.addi (BitVec.ofNat 32 h) e).toNat, (BitVec.ofNat 32 w).toNat] : Fin 5 → ℕ)
      = ![d.toNat, b, 0, h + e.toNat, w] := by
  have e1 : (BitVec.ofNat 32 b).toNat = b := by rw [BitVec.toNat_ofNat]; omega
  have e3 : (Scalar.addi (BitVec.ofNat 32 h) e).toNat = h + e.toNat := by
    show ((BitVec.ofNat 32 h) + e).toNat = h + e.toNat
    rw [BitVec.toNat_add, BitVec.toNat_ofNat]; omega
  have e4 : (BitVec.ofNat 32 w).toNat = w := by rw [BitVec.toNat_ofNat]; omega
  rw [e1, e3, e4]; rfl

/-- The block a window holds at a grid point. -/
theorem map_at (d e : BitVec 32) (he : e.toNat < 2) (t : Fin cfg0.N) :
    (![d.toNat, (BitVec.ofNat 32 (grid0.coords t 0).val).toNat, (0#32).toNat, (Scalar.addi (BitVec.ofNat 32 (grid0.coords t 1).val) e).toNat, (BitVec.ofNat 32 (grid0.coords t 2).val).toNat] : Fin 5 → ℕ)
      = ![d.toNat, (gb t).val, 0, (gh t).val + e.toNat, (gw t).val] :=
  words_at d e he _ _ _ (gb t).isLt (gh t).isLt (gw t).isLt

/-- What holds of every entry of a table holds wherever it is looked up. -/
theorem table5 {α : Type} {P : Fin 5 → Fin 2 → α → Prop} {a0 a1 a2 a3 a4 a5 a6 a7 a8 a9 : α}
    (h0 : P 0 0 a0) (h1 : P 0 1 a1) (h2 : P 1 0 a2) (h3 : P 1 1 a3) (h4 : P 2 0 a4) (h5 : P 2 1 a5) (h6 : P 3 0 a6) (h7 : P 3 1 a7) (h8 : P 4 0 a8) (h9 : P 4 1 a9) (dj : Fin 5) (dh : Fin 2) :
    P dj dh ((![![a0, a1], ![a2, a3], ![a4, a5], ![a6, a7], ![a8, a9]] : Fin 5 → Fin 2 → α) dj dh) :=
  match dj, dh with
  | 0, 0 => h0
  | 0, 1 => h1
  | 1, 0 => h2
  | 1, 1 => h3
  | 2, 0 => h4
  | 2, 1 => h5
  | 3, 0 => h6
  | 3, 1 => h7
  | 4, 0 => h8
  | 4, 1 => h9

/-- What holds of every entry of a table holds wherever it is looked up. -/
theorem table7 {α : Type} {P : Fin 7 → Fin 2 → α → Prop} {a0 a1 a2 a3 a4 a5 a6 a7 a8 a9 a10 a11 a12 a13 : α}
    (h0 : P 0 0 a0) (h1 : P 0 1 a1) (h2 : P 1 0 a2) (h3 : P 1 1 a3) (h4 : P 2 0 a4) (h5 : P 2 1 a5) (h6 : P 3 0 a6) (h7 : P 3 1 a7) (h8 : P 4 0 a8) (h9 : P 4 1 a9) (h10 : P 5 0 a10) (h11 : P 5 1 a11) (h12 : P 6 0 a12) (h13 : P 6 1 a13) (dj : Fin 7) (dh : Fin 2) :
    P dj dh ((![![a0, a1], ![a2, a3], ![a4, a5], ![a6, a7], ![a8, a9], ![a10, a11], ![a12, a13]] : Fin 7 → Fin 2 → α) dj dh) :=
  match dj, dh with
  | 0, 0 => h0
  | 0, 1 => h1
  | 1, 0 => h2
  | 1, 1 => h3
  | 2, 0 => h4
  | 2, 1 => h5
  | 3, 0 => h6
  | 3, 1 => h7
  | 4, 0 => h8
  | 4, 1 => h9
  | 5, 0 => h10
  | 5, 1 => h11
  | 6, 0 => h12
  | 6, 1 => h13

set_option maxHeartbeats 4000000 in
/-- The first image's blocks, read. -/
theorem ins_x (c : Dev nD) (t : Fin cfg0.N) (dj : Fin 5) (dh : Fin 2) : ∀ (ch : Fin 5) (a : Fin 8) (l : Fin 128),
    (ins m c t).x dj dh (ix5 0 0 ch a l) = V m c main_v12 (ix5 dj (gb t) ch (rowOf t dh a) (colOf t l)) := by
  refine table5 (P := fun dj dh (B : S1x1x5x8x128.Idx → EReal) => ∀ (ch : Fin 5) (a : Fin 8) (l : Fin 128), B (ix5 0 0 ch a l) = V m c main_v12 (ix5 dj (gb t) ch (rowOf t dh a) (colOf t l))) ?_ ?_ ?_ ?_ ?_ ?_ ?_ ?_ ?_ ?_ dj dh
  · intro ch a l; blk_simp [iblk]; exact placed (V m c main_v12) t 0 0 (win0_0.blk t).view.emb (cc0_transform_0 (grid0.coords t)) (fun y k => Pipeline.Window.rect_emb_val win0_0 t y k) (map_at 0#32 0#32 (by decide) t) ch a l
  · intro ch a l; blk_simp [iblk]; exact placed (V m c main_v12) t 0 1 (win0_1.blk t).view.emb (cc0_transform_1 (grid0.coords t)) (fun y k => Pipeline.Window.rect_emb_val win0_1 t y k) (map_at 0#32 1#32 (by decide) t) ch a l
  · intro ch a l; blk_simp [iblk]; exact placed (V m c main_v12) t 1 0 (win0_2.blk t).view.emb (cc0_transform_2 (grid0.coords t)) (fun y k => Pipeline.Window.rect_emb_val win0_2 t y k) (map_at 1#32 0#32 (by decide) t) ch a l
  · intro ch a l; blk_simp [iblk]; exact placed (V m c main_v12) t 1 1 (win0_3.blk t).view.emb (cc0_transform_3 (grid0.coords t)) (fun y k => Pipeline.Window.rect_emb_val win0_3 t y k) (map_at 1#32 1#32 (by decide) t) ch a l
  · intro ch a l; blk_simp [iblk]; exact placed (V m c main_v12) t 2 0 (win0_4.blk t).view.emb (cc0_transform_4 (grid0.coords t)) (fun y k => Pipeline.Window.rect_emb_val win0_4 t y k) (map_at 2#32 0#32 (by decide) t) ch a l
  · intro ch a l; blk_simp [iblk]; exact placed (V m c main_v12) t 2 1 (win0_5.blk t).view.emb (cc0_transform_5 (grid0.coords t)) (fun y k => Pipeline.Window.rect_emb_val win0_5 t y k) (map_at 2#32 1#32 (by decide) t) ch a l
  · intro ch a l; blk_simp [iblk]; exact placed (V m c main_v12) t 3 0 (win0_6.blk t).view.emb (cc0_transform_6 (grid0.coords t)) (fun y k => Pipeline.Window.rect_emb_val win0_6 t y k) (map_at 3#32 0#32 (by decide) t) ch a l
  · intro ch a l; blk_simp [iblk]; exact placed (V m c main_v12) t 3 1 (win0_7.blk t).view.emb (cc0_transform_7 (grid0.coords t)) (fun y k => Pipeline.Window.rect_emb_val win0_7 t y k) (map_at 3#32 1#32 (by decide) t) ch a l
  · intro ch a l; blk_simp [iblk]; exact placed (V m c main_v12) t 4 0 (win0_8.blk t).view.emb (cc0_transform_8 (grid0.coords t)) (fun y k => Pipeline.Window.rect_emb_val win0_8 t y k) (map_at 4#32 0#32 (by decide) t) ch a l
  · intro ch a l; blk_simp [iblk]; exact placed (V m c main_v12) t 4 1 (win0_9.blk t).view.emb (cc0_transform_9 (grid0.coords t)) (fun y k => Pipeline.Window.rect_emb_val win0_9 t y k) (map_at 4#32 1#32 (by decide) t) ch a l

set_option maxHeartbeats 4000000 in
/-- The second image's blocks, read. -/
theorem ins_p (c : Dev nD) (t : Fin cfg0.N) (dj : Fin 7) (dh : Fin 2) : ∀ (ch : Fin 5) (a : Fin 8) (l : Fin 128),
    (ins m c t).p dj dh (ix5 0 0 ch a l) = V m c main_v27 (ix5 dj (gb t) ch (rowOf t dh a) (colOf t l)) := by
  refine table7 (P := fun dj dh (B : S1x1x5x8x128.Idx → EReal) => ∀ (ch : Fin 5) (a : Fin 8) (l : Fin 128), B (ix5 0 0 ch a l) = V m c main_v27 (ix5 dj (gb t) ch (rowOf t dh a) (colOf t l))) ?_ ?_ ?_ ?_ ?_ ?_ ?_ ?_ ?_ ?_ ?_ ?_ ?_ ?_ dj dh
  · intro ch a l; blk_simp [iblk]; exact placed (V m c main_v27) t 0 0 (win0_10.blk t).view.emb (cc0_transform_10 (grid0.coords t)) (fun y k => Pipeline.Window.rect_emb_val win0_10 t y k) (map_at 0#32 0#32 (by decide) t) ch a l
  · intro ch a l; blk_simp [iblk]; exact placed (V m c main_v27) t 0 1 (win0_11.blk t).view.emb (cc0_transform_11 (grid0.coords t)) (fun y k => Pipeline.Window.rect_emb_val win0_11 t y k) (map_at 0#32 1#32 (by decide) t) ch a l
  · intro ch a l; blk_simp [iblk]; exact placed (V m c main_v27) t 1 0 (win0_12.blk t).view.emb (cc0_transform_12 (grid0.coords t)) (fun y k => Pipeline.Window.rect_emb_val win0_12 t y k) (map_at 1#32 0#32 (by decide) t) ch a l
  · intro ch a l; blk_simp [iblk]; exact placed (V m c main_v27) t 1 1 (win0_13.blk t).view.emb (cc0_transform_13 (grid0.coords t)) (fun y k => Pipeline.Window.rect_emb_val win0_13 t y k) (map_at 1#32 1#32 (by decide) t) ch a l
  · intro ch a l; blk_simp [iblk]; exact placed (V m c main_v27) t 2 0 (win0_14.blk t).view.emb (cc0_transform_14 (grid0.coords t)) (fun y k => Pipeline.Window.rect_emb_val win0_14 t y k) (map_at 2#32 0#32 (by decide) t) ch a l
  · intro ch a l; blk_simp [iblk]; exact placed (V m c main_v27) t 2 1 (win0_15.blk t).view.emb (cc0_transform_15 (grid0.coords t)) (fun y k => Pipeline.Window.rect_emb_val win0_15 t y k) (map_at 2#32 1#32 (by decide) t) ch a l
  · intro ch a l; blk_simp [iblk]; exact placed (V m c main_v27) t 3 0 (win0_16.blk t).view.emb (cc0_transform_16 (grid0.coords t)) (fun y k => Pipeline.Window.rect_emb_val win0_16 t y k) (map_at 3#32 0#32 (by decide) t) ch a l
  · intro ch a l; blk_simp [iblk]; exact placed (V m c main_v27) t 3 1 (win0_17.blk t).view.emb (cc0_transform_17 (grid0.coords t)) (fun y k => Pipeline.Window.rect_emb_val win0_17 t y k) (map_at 3#32 1#32 (by decide) t) ch a l
  · intro ch a l; blk_simp [iblk]; exact placed (V m c main_v27) t 4 0 (win0_18.blk t).view.emb (cc0_transform_18 (grid0.coords t)) (fun y k => Pipeline.Window.rect_emb_val win0_18 t y k) (map_at 4#32 0#32 (by decide) t) ch a l
  · intro ch a l; blk_simp [iblk]; exact placed (V m c main_v27) t 4 1 (win0_19.blk t).view.emb (cc0_transform_19 (grid0.coords t)) (fun y k => Pipeline.Window.rect_emb_val win0_19 t y k) (map_at 4#32 1#32 (by decide) t) ch a l
  · intro ch a l; blk_simp [iblk]; exact placed (V m c main_v27) t 5 0 (win0_20.blk t).view.emb (cc0_transform_20 (grid0.coords t)) (fun y k => Pipeline.Window.rect_emb_val win0_20 t y k) (map_at 5#32 0#32 (by decide) t) ch a l
  · intro ch a l; blk_simp [iblk]; exact placed (V m c main_v27) t 5 1 (win0_21.blk t).view.emb (cc0_transform_21 (grid0.coords t)) (fun y k => Pipeline.Window.rect_emb_val win0_21 t y k) (map_at 5#32 1#32 (by decide) t) ch a l
  · intro ch a l; blk_simp [iblk]; exact placed (V m c main_v27) t 6 0 (win0_22.blk t).view.emb (cc0_transform_22 (grid0.coords t)) (fun y k => Pipeline.Window.rect_emb_val win0_22 t y k) (map_at 6#32 0#32 (by decide) t) ch a l
  · intro ch a l; blk_simp [iblk]; exact placed (V m c main_v27) t 6 1 (win0_23.blk t).view.emb (cc0_transform_23 (grid0.coords t)) (fun y k => Pipeline.Window.rect_emb_val win0_23 t y k) (map_at 6#32 1#32 (by decide) t) ch a l

/-- The weights' blocks are the weights. -/
theorem ins_w (c : Dev nD) (t : Fin cfg0.N) (o : Fin 32) (r : Fin 48) : (ins m c t).w (ix2 o r) = V m c main_v29 (ix2 o r) := by
  refine congrArg (V m c main_v29) (funext fun k => Fin.ext ((Pipeline.Window.rect_emb_val win0_24 t (ix2 o r) k).trans ?_))
  match k with
  | 0 => show 0 * 32 + o.val = o.val; omega
  | 1 => show 0 * 48 + r.val = r.val; omega

theorem ins_pw (c : Dev nD) (t : Fin cfg0.N) (o : Fin 32) (r : Fin 48) : (ins m c t).pw (ix2 o r) = V m c main_v31 (ix2 o r) := by
  refine congrArg (V m c main_v31) (funext fun k => Fin.ext ((Pipeline.Window.rect_emb_val win0_25 t (ix2 o r) k).trans ?_))
  match k with
  | 0 => show 0 * 32 + o.val = o.val; omega
  | 1 => show 0 * 48 + r.val = r.val; omega

/-- The four arguments a device holds. -/
abbrev img (c : Dev nD) : Img := m ((c : Thread nD τ).loc main_arg0)
abbrev img2 (c : Dev nD) : Img := m ((c : Thread nD τ).loc main_arg1)
abbrev wgt (c : Dev nD) : Wgt := m ((c : Thread nD τ).loc main_arg2)
abbrev wgt2 (c : Dev nD) : Wgt := m ((c : Thread nD τ).loc main_arg3)

/-- A grid point's blocks show the images around its tile, and the weights. -/
theorem shows (c : Dev nD) (t : Fin cfg0.N) :
    Shows (ins m c t) (img m c) (img2 m c) (wgt m c) (wgt2 m c) (gb t) (8 * (gh t).val) (128 * (gw t).val) where
  x_at dj h ch a l := by
    refine (ins_x m c t dj h ch a l).trans ((host_x_at m c dj (gb t) ch (rowOf t h a) (colOf t l)).trans ?_)
    exact congrArg (fun n => pix (img m c) (gb t) ch n _) (show 8 * ((gh t).val + h.val) + a.val = 8 * (gh t).val + (8 * h.val + a.val) by omega)
  p_at dj h ch a l := by
    refine (ins_p m c t dj h ch a l).trans ((host_p_at m c dj (gb t) ch (rowOf t h a) (colOf t l)).trans ?_)
    exact congrArg (fun n => pix (img2 m c) (gb t) ch n _) (show 8 * ((gh t).val + h.val) + a.val = 8 * (gh t).val + (8 * h.val + a.val) by omega)
  w_at o ch j := (ins_w m c t o (grow ch j)).trans (host_w_at m c o ch j)
  pw_at o ch j := (ins_pw m c t o (grow ch j)).trans (host_w2_at m c o ch j)

theorem maps_out : ∀ t : Fin cfg0.N, win0_26.index t = ![(gb t).val, 0, (gh t).val, (gw t).val] :=
  (by decide +kernel : ∀ t : Fin grid0.N, _)

theorem maps_pout : ∀ t : Fin cfg0.N, win0_27.index t = ![(gb t).val, 0, (gh t).val, (gw t).val] :=
  (by decide +kernel : ∀ t : Fin grid0.N, _)

/-- Where an element of a block of results lies. -/
theorem placed_out (e : S1x32x8x128.Idx → S2x32x64x2048.Idx) {f : Fin 4 → ℕ} (he : ∀ y k, (e y k : ℕ) = f k * S1x32x8x128.size k + (y k : ℕ))
    {t : Fin cfg0.N} (hf : f = ![(gb t).val, 0, (gh t).val, (gw t).val]) (o : Fin 32) (a : Fin 8) (l : Fin 128) :
    e (ix4 0 o a l) = ix4 (gb t) o (⟨8 * (gh t).val + a.val, by omega⟩ : Fin 64) (⟨128 * (gw t).val + l.val, by omega⟩ : Fin 2048) := by
  subst hf
  refine funext fun k => Fin.ext ((he _ k).trans ?_)
  match k with
  | 0 => show (gb t).val * 1 + 0 = (gb t).val; omega
  | 1 => show 0 * 32 + o.val = o.val; omega
  | 2 => show (gh t).val * 8 + a.val = 8 * (gh t).val + a.val; omega
  | 3 => show (gw t).val * 128 + l.val = 128 * (gw t).val + l.val; omega

/-- An index of a block of results by its coordinates. -/
theorem out_index (y : S1x32x8x128.Idx) : y = ix4 0 (y 1) (y 2) (y 3) := by
  funext k
  match k with
  | 0 => exact Fin.ext (show (y 0).val = 0 by have h : (y 0).val < 1 := (y 0).isLt; omega)
  | 1 => rfl
  | 2 => rfl
  | 3 => rfl

/-- The whole results of the problem, as arrays. -/
def whole1 (x : Img) (w : Wgt) : S2x32x64x2048.Idx → EReal := fun i => res1 x w (i 0) (i 1) (i 2).val (i 3).val
def whole2 (x p : Img) (w : Wgt) : S2x32x64x2048.Idx → EReal := fun i => res2 x p w (i 0) (i 1) (i 2).val (i 3).val

/-- The first array of results after the grid. -/
theorem array1 (c : Dev nD) (hx : Finite0 (img m c)) : (dats m 0 c).arrAt 26 cfg0.N = whole1 (img m c) (wgt m c) := by
  refine (dats m 0 c).arrAt_eq_of_covers 26 _ (by decide +kernel) fun t hf y => ?_
  blk_simp
  rw [after26]
  rw [out_index y]
  refine ((shows m c t).out_at (y 2) (y 3) hx (y 1)).trans ?_
  exact (congrArg (whole1 (img m c) (wgt m c)) (placed_out (win0_26.blk t).view.emb (fun y k => Pipeline.Window.rect_emb_val win0_26 t y k) (maps_out t) (y 1) (y 2) (y 3))).symm

/-- The second array of results after the grid. -/
theorem array2 (c : Dev nD) (hx : Finite0 (img m c)) (hp : Finite0 (img2 m c)) :
    (dats m 0 c).arrAt 27 cfg0.N = whole2 (img m c) (img2 m c) (wgt2 m c) := by
  refine (dats m 0 c).arrAt_eq_of_covers 27 _ (by decide +kernel) fun t hf y => ?_
  blk_simp
  rw [after27]
  rw [out_index y]
  refine ((shows m c t).pout_at (y 2) (y 3) hx hp (y 1)).trans ?_
  exact (congrArg (whole2 (img m c) (img2 m c) (wgt2 m c)) (placed_out (win0_27.blk t).view.emb (fun y k => Pipeline.Window.rect_emb_val win0_27 t y k) (maps_pout t) (y 1) (y 2) (y 3))).symm

end Cert.KernelIdeal.Knn
-- ==== Proof.RefWin.lean ====
/-
  The reference's windows and distances read at an index.
-/
module

public import proofs.«01_k».proof.Proof.Gen.ReferenceIdeal.Run
public import proofs.«01_k».proof.Proof.Reads

@[expose] public section

noncomputable section

namespace Cert.ReferenceIdeal.Knn

open Idealize.ShloMosaic Idealize.SL.Sem
open Cert.ReferenceIdeal.Gen Cert.ReferenceIdeal.Value
open Cert.KernelIdeal.Knn (Img Wgt pix around5 around7 here nbr5 nbr7 pix_in pad_image unfold_at)

variable (V : Valuation τ sig (Elt Ideal))

/-- The reference's arguments. -/
abbrev argX : Img := V (Proc.devRef .tc main_arg0)
abbrev argP : Img := V (Proc.devRef .tc main_arg1)

theorem zero_at (i : S_.Idx) : (sitofp .f32 (constantI S_ 32 0#32) : FVec Ideal S_ .f32) i = 0 := by
  show (((0#32 : BitVec 32).toInt : ℝ) : EReal) = 0
  simp

theorem v0_at (b : Fin 2) (ch : Fin 5) (i : Fin 68) (j : Fin 2052) : res_main_v0 V (ix4 b ch i j) = pix (argX V) b ch (i.val + 1) (j.val + 1) :=
  pad_image (k := 2) (by decide) _ (argX V) _ zero_at _ _ b ch i j

theorem v57_at (b : Fin 2) (ch : Fin 5) (i : Fin 70) (j : Fin 2054) : res_main_v57 V (ix4 b ch i j) = pix (argP V) b ch i.val j.val :=
  pad_image (k := 3) (by decide) _ (argP V) _ zero_at _ _ b ch i j

/-- Rows of windows: what a window's stack is made of. -/
def piece {A B k : ℕ} (Y : (⟨4, ![2, 5, A, B]⟩ : Shape).Idx → EReal)
    (hs : ∀ n m : Fin k, (⟨4, ![2, 5, A, B]⟩ : Shape).Slices ![0, 0, n.val, m.val] S2x5x64x2048) (n m : Fin k) : S2x5x1x64x2048.Idx → EReal :=
  broadcastInDim S2x5x1x64x2048 ![0, 1, 3, 4] bcast_S2x5x64x2048_S2x5x1x64x2048_0_1_3_4
    (extractStridedSlice S2x5x64x2048 ![0, 0, n.val, m.val] Y (hs n m))

theorem piece_at {A B k : ℕ} (Y : (⟨4, ![2, 5, A, B]⟩ : Shape).Idx → EReal)
    (hs : ∀ n m : Fin k, (⟨4, ![2, 5, A, B]⟩ : Shape).Slices ![0, 0, n.val, m.val] S2x5x64x2048) (n m : Fin k) (b : Fin 2) (ch : Fin 5) (H : Fin 64) (W : Fin 2048)
    (hA : n.val + H.val < A) (hB : m.val + W.val < B) :
    piece Y hs n m (ix5 b ch 0 H W) = Y (ix4 b ch ⟨n.val + H.val, hA⟩ ⟨m.val + W.val, hB⟩) := by
  unfold piece
  pointwise
  refine congrArg Y (funext fun a => Fin.ext ?_)
  match a with
  | 0 => exact Nat.zero_add _
  | 1 => exact Nat.zero_add _
  | 2 => rfl
  | 3 => rfl

theorem slices5 (n m : Fin 5) : S2x5x68x2052.Slices ![0, 0, n.val, m.val] S2x5x64x2048 := by revert n m; decide
theorem slices7 (n m : Fin 7) : S2x5x70x2054.Slices ![0, 0, n.val, m.val] S2x5x64x2048 := by revert n m; decide

/-- The 5×5 windows as rows of pieces. -/
theorem v56_eq : res_main_v56 V = concatenate S2x5x25x64x2048 2 (List.ofFn fun n : Fin 5 => ⟨S2x5x5x64x2048, concatenate S2x5x5x64x2048 2
    (List.ofFn fun m : Fin 5 => ⟨S2x5x1x64x2048, piece (res_main_v0 V) slices5 n m⟩)
    concatenates_S2x5x1x64x2048_S2x5x1x64x2048_S2x5x1x64x2048_S2x5x1x64x2048_S2x5x1x64x2048_S2x5x5x64x2048_d2⟩)
    concatenates_S2x5x5x64x2048_S2x5x5x64x2048_S2x5x5x64x2048_S2x5x5x64x2048_S2x5x5x64x2048_S2x5x25x64x2048_d2 := by
  unfold res_main_v56
  rfl

/-- The 7×7 windows as rows of pieces. -/
theorem v163_eq : res_main_v163 V = concatenate S2x5x49x64x2048 2 (List.ofFn fun n : Fin 7 => ⟨S2x5x7x64x2048, concatenate S2x5x7x64x2048 2
    (List.ofFn fun m : Fin 7 => ⟨S2x5x1x64x2048, piece (res_main_v57 V) slices7 n m⟩)
    concatenates_S2x5x1x64x2048_S2x5x1x64x2048_S2x5x1x64x2048_S2x5x1x64x2048_S2x5x1x64x2048_S2x5x1x64x2048_S2x5x1x64x2048_S2x5x7x64x2048_d2⟩)
    concatenates_S2x5x7x64x2048_S2x5x7x64x2048_S2x5x7x64x2048_S2x5x7x64x2048_S2x5x7x64x2048_S2x5x7x64x2048_S2x5x7x64x2048_S2x5x49x64x2048_d2 := by
  unfold res_main_v163
  rfl

variable (b : Fin 2) (H : Fin 64) (W : Fin 2048)

/-- The 5×5 windows' slots. -/
theorem v56_at (ch : Fin 5) (s : Fin 25) :
    (res_main_v56 V : S2x5x25x64x2048.Idx → EReal) (ix5 b ch s H W) = around5 (argX V) b H.val W.val ch s := by
  rw [v56_eq]
  refine (unfold_at (k := 5) (N := 25) (fun n m => piece (res_main_v0 V) slices5 n m)
    concatenates_S2x5x1x64x2048_S2x5x1x64x2048_S2x5x1x64x2048_S2x5x1x64x2048_S2x5x1x64x2048_S2x5x5x64x2048_d2
    concatenates_S2x5x5x64x2048_S2x5x5x64x2048_S2x5x5x64x2048_S2x5x5x64x2048_S2x5x5x64x2048_S2x5x25x64x2048_d2 b ch s H W ⟨s.val / 5, by omega⟩ ⟨s.val % 5, by omega⟩ rfl rfl).trans ?_
  rw [piece_at _ _ _ _ b ch H W (by show s.val / 5 + H.val < 68; omega) (by show s.val % 5 + W.val < 2052; omega)]
  refine (v0_at V b ch _ _).trans ?_
  unfold around5
  congr 1 <;> (simp only; omega)

/-- The 7×7 windows' slots. -/
theorem v163_at (ch : Fin 5) (s : Fin 49) :
    (res_main_v163 V : S2x5x49x64x2048.Idx → EReal) (ix5 b ch s H W) = around7 (argP V) b H.val W.val ch s := by
  rw [v163_eq]
  refine (unfold_at (k := 7) (N := 49) (fun n m => piece (res_main_v57 V) slices7 n m)
    concatenates_S2x5x1x64x2048_S2x5x1x64x2048_S2x5x1x64x2048_S2x5x1x64x2048_S2x5x1x64x2048_S2x5x1x64x2048_S2x5x1x64x2048_S2x5x7x64x2048_d2
    concatenates_S2x5x7x64x2048_S2x5x7x64x2048_S2x5x7x64x2048_S2x5x7x64x2048_S2x5x7x64x2048_S2x5x7x64x2048_S2x5x7x64x2048_S2x5x49x64x2048_d2 b ch s H W ⟨s.val / 7, by omega⟩ ⟨s.val % 7, by omega⟩ rfl rfl).trans ?_
  rw [piece_at _ _ _ _ b ch H W (by show s.val / 7 + H.val < 70; omega) (by show s.val % 7 + W.val < 2054; omega)]
  refine (v57_at V b ch _ _).trans ?_
  unfold around7
  congr 1 <;> (simp only; omega)

end Cert.ReferenceIdeal.Knn
-- ==== Proof.Picks.lean ====
/-
  The reference's choice of neighbours read at an index: the top-k of the negated distances gives
  the positions of a stable sort by distance, the wrap of negative indices keeps a position as it
  is, and the gather reads the window at that position.
-/
module

public import Idealize.ShloMosaic.Lib.Pointwise
public import proofs.«01_k».proof.Proof.Spec

@[expose] public section

noncomputable section

namespace Cert.KernelIdeal.Knn

open Idealize.ShloMosaic

variable {n : ℕ}

/-- The slots' axis moved to the end. -/
theorem last_at {α : Type} (x : (⟨4, ![2, n, 64, 2048]⟩ : Shape).Idx → α) (h : (⟨4, ![2, n, 64, 2048]⟩ : Shape).Transposes [0, 2, 3, 1] ⟨4, ![2, 64, 2048, n]⟩)
    (b : Fin 2) (H : Fin 64) (W : Fin 2048) (s : Fin n) : transpose ⟨4, ![2, 64, 2048, n]⟩ [0, 2, 3, 1] x h (ix4 b H W s) = x (ix4 b s H W) := by
  refine congrArg x (funext fun a => ?_)
  match a with
  | 0 => rfl
  | 1 => rfl
  | 2 => rfl
  | 3 => rfl

/-- The last axis moved to be the second. -/
theorem second_at {α : Type} (x : (⟨4, ![2, 64, 2048, n]⟩ : Shape).Idx → α) (h : (⟨4, ![2, 64, 2048, n]⟩ : Shape).Transposes [0, 3, 1, 2] ⟨4, ![2, n, 64, 2048]⟩)
    (b : Fin 2) (H : Fin 64) (W : Fin 2048) (s : Fin n) : transpose ⟨4, ![2, n, 64, 2048]⟩ [0, 3, 1, 2] x h (ix4 b s H W) = x (ix4 b H W s) := by
  refine congrArg x (funext fun a => ?_)
  match a with
  | 0 => rfl
  | 1 => rfl
  | 2 => rfl
  | 3 => rfl

/-- The positions of the nine greatest along the last axis. -/
theorem topk_at (hn : 9 ≤ n) (x : (⟨4, ![2, 64, 2048, n]⟩ : Shape).Idx → EReal) (h : (⟨4, ![2, 64, 2048, n]⟩ : Shape).Slices (fun _ => 0) ⟨4, ![2, 64, 2048, 9]⟩)
    (b : Fin 2) (H : Fin 64) (W : Fin 2048) (v : Fin n → EReal) (hv : ∀ s, x (ix4 b H W s) = -v s) (j : Fin 9) :
    (Host.topK ⟨4, ![2, 64, 2048, 9]⟩ 3 (FloatOps.cmpfTotal (F := Ideal) (φ := .f32) .gt) x h).2 (ix4 b H W j) =
      BitVec.ofNat 32 (sortedFrom (fun a c => decide (v a < v c)) (j.castLE hn)).val := by
  have key : ∀ a c : Fin n, (FloatOps.cmpfTotal (F := Ideal) (φ := .f32) .gt (x (ix4 b H W a)) (x (ix4 b H W c)) == 1#1) = decide (v a < v c) := by
    intro a c
    rw [hv, hv]
    show (BitVec.ofBool (decide (-v c < -v a)) == 1#1) = _
    by_cases hlt : v a < v c
    · rw [decide_eq_true (EReal.neg_lt_neg_iff.2 hlt), decide_eq_true hlt]; rfl
    · rw [decide_eq_false (fun e => hlt (EReal.neg_lt_neg_iff.1 e)), decide_eq_false hlt]; rfl
  have al : ∀ (i : (⟨4, ![2, 64, 2048, n]⟩ : Shape).Idx) (k : Fin n), i 0 = b → i 1 = H → i 2 = W → Shape.Idx.along i 3 k = ix4 b H W k := by
    intro i k h0 h1 h2
    funext a
    match a with
    | 0 => exact h0
    | 1 => exact h1
    | 2 => exact h2
    | 3 => rfl
  have all : ∀ i : (⟨4, ![2, 64, 2048, n]⟩ : Shape).Idx, i 0 = b → i 1 = H → i 2 = W → (i 3 : Fin n) = j.castLE hn →
      BitVec.ofNat 32 ((Shape.Idx.along i 3 (sortedFrom (n := n) (fun k k' => FloatOps.cmpfTotal (F := Ideal) (φ := .f32) .gt
        (x (Shape.Idx.along i 3 k)) (x (Shape.Idx.along i 3 k')) == 1#1) (i 3))) 3).val =
      BitVec.ofNat 32 (sortedFrom (fun a c => decide (v a < v c)) (j.castLE hn)).val := by
    intro i h0 h1 h2 h3
    have e : (fun k k' : Fin n => FloatOps.cmpfTotal (F := Ideal) (φ := .f32) .gt
        (x (Shape.Idx.along i 3 k)) (x (Shape.Idx.along i 3 k')) == 1#1) = fun a c => decide (v a < v c) :=
      funext fun k => funext fun k' => by rw [al i k h0 h1 h2, al i k' h0 h1 h2]; exact key k k'
    rw [al i _ h0 h1 h2]
    show BitVec.ofNat 32 (sortedFrom (n := n) _ (i 3)).val = _
    rw [e, h3]
  exact all (fun a => ⟨0 + (ix4 b H W j (a.cast h.1.symm)).val, Nat.lt_of_lt_of_le (Nat.add_lt_add_left (Fin.isLt _) _) (h.2 a)⟩)
    (Fin.ext (Nat.zero_add _)) (Fin.ext (Nat.zero_add _)) (Fin.ext (Nat.zero_add _)) (Fin.ext (Nat.zero_add _))

/-- A position wrapped as jnp wraps a negative index is the position. -/
theorem wrap25 (k : Fin 25) : Scalar.select (IntOp.cmpi .slt (BitVec.ofNat 32 k.val) 0#32) (BitVec.ofNat 32 k.val + 25#32) (BitVec.ofNat 32 k.val) =
    BitVec.ofNat 32 k.val := by
  revert k
  decide

theorem wrap49 (k : Fin 49) : Scalar.select (IntOp.cmpi .slt (BitVec.ofNat 32 k.val) 0#32) (BitVec.ofNat 32 k.val + 49#32) (BitVec.ofNat 32 k.val) =
    BitVec.ofNat 32 k.val := by
  revert k
  decide

/-- The clamp of a position that is in range. -/
theorem clamp25 (k : Fin 25) : min (BitVec.ofNat 32 k.val).toInt.toNat (25 - 1) = k.val := by
  revert k
  decide

theorem clamp49 (k : Fin 49) : min (BitVec.ofNat 32 k.val).toInt.toNat (49 - 1) = k.val := by
  revert k
  decide

end Cert.KernelIdeal.Knn
-- ==== Proof.RefOps.lean ====
/-
  The reference's re-indexings, each read at an index.
-/
module

public import Idealize.ShloMosaic.Lib.Pointwise
public import Idealize.ShloMosaic.Lib.IdealHost
public import Idealize.ShloMosaic.Lib.Pipeline.Value
public import proofs.«01_k».proof.Proof.Spec

@[expose] public section

noncomputable section

namespace Cert.KernelIdeal.Knn

open Idealize.ShloMosaic

/-- One channel taken out of an array whose second axis is the channels'. -/
theorem chan9_at {K c : ℕ} (hc : c < K) (Y : (⟨5, ![2, K, 9, 64, 2048]⟩ : Shape).Idx → EReal)
    (h1 : (⟨5, ![2, K, 9, 64, 2048]⟩ : Shape).Slices ![0,c,0,0,0] ⟨5, ![2, 1, 9, 64, 2048]⟩) (h2 : (⟨5, ![2, 1, 9, 64, 2048]⟩ : Shape).ShapeCasts ⟨4, ![2, 9, 64, 2048]⟩)
    (b : Fin 2) (H : Fin 64) (W : Fin 2048) (s : Fin 9) :
    shapeCast ⟨4, ![2, 9, 64, 2048]⟩ (extractStridedSlice ⟨5, ![2, 1, 9, 64, 2048]⟩ ![0,c,0,0,0] Y h1) h2 (ix4 b s H W) = Y (ix5 b ⟨c, hc⟩ s H W) := by
  pointwise
  refine congrArg Y (funext fun a => Fin.ext ?_)
  match a with
  | 0 => exact Nat.zero_add _
  | 1 => rfl
  | 2 => exact Nat.zero_add _
  | 3 => exact Nat.zero_add _
  | 4 => exact Nat.zero_add _

theorem chan25_at {K c : ℕ} (hc : c < K) (Y : (⟨5, ![2, K, 25, 64, 2048]⟩ : Shape).Idx → EReal)
    (h1 : (⟨5, ![2, K, 25, 64, 2048]⟩ : Shape).Slices ![0,c,0,0,0] ⟨5, ![2, 1, 25, 64, 2048]⟩) (h2 : (⟨5, ![2, 1, 25, 64, 2048]⟩ : Shape).ShapeCasts ⟨4, ![2, 25, 64, 2048]⟩)
    (b : Fin 2) (H : Fin 64) (W : Fin 2048) (s : Fin 25) :
    shapeCast ⟨4, ![2, 25, 64, 2048]⟩ (extractStridedSlice ⟨5, ![2, 1, 25, 64, 2048]⟩ ![0,c,0,0,0] Y h1) h2 (ix4 b s H W) = Y (ix5 b ⟨c, hc⟩ s H W) := by
  pointwise
  refine congrArg Y (funext fun a => Fin.ext ?_)
  match a with
  | 0 => exact Nat.zero_add _
  | 1 => rfl
  | 2 => exact Nat.zero_add _
  | 3 => exact Nat.zero_add _
  | 4 => exact Nat.zero_add _

theorem chan49_at {K c : ℕ} (hc : c < K) (Y : (⟨5, ![2, K, 49, 64, 2048]⟩ : Shape).Idx → EReal)
    (h1 : (⟨5, ![2, K, 49, 64, 2048]⟩ : Shape).Slices ![0,c,0,0,0] ⟨5, ![2, 1, 49, 64, 2048]⟩) (h2 : (⟨5, ![2, 1, 49, 64, 2048]⟩ : Shape).ShapeCasts ⟨4, ![2, 49, 64, 2048]⟩)
    (b : Fin 2) (H : Fin 64) (W : Fin 2048) (s : Fin 49) :
    shapeCast ⟨4, ![2, 49, 64, 2048]⟩ (extractStridedSlice ⟨5, ![2, 1, 49, 64, 2048]⟩ ![0,c,0,0,0] Y h1) h2 (ix4 b s H W) = Y (ix5 b ⟨c, hc⟩ s H W) := by
  pointwise
  refine congrArg Y (funext fun a => Fin.ext ?_)
  match a with
  | 0 => exact Nat.zero_add _
  | 1 => rfl
  | 2 => exact Nat.zero_add _
  | 3 => exact Nat.zero_add _
  | 4 => exact Nat.zero_add _

/-- Channels 1 to 3 taken out of such an array. -/
theorem inner_at (Y : (⟨5, ![2, 5, 9, 64, 2048]⟩ : Shape).Idx → EReal)
    (h : (⟨5, ![2, 5, 9, 64, 2048]⟩ : Shape).Slices ![0, 1, 0, 0, 0] ⟨5, ![2, 3, 9, 64, 2048]⟩) (b : Fin 2) (k : Fin 3) (c : Fin 5) (hc : 1 + k.val = c.val)
    (j : Fin 9) (H : Fin 64) (W : Fin 2048) :
    extractStridedSlice ⟨5, ![2, 3, 9, 64, 2048]⟩ ![0, 1, 0, 0, 0] Y h (ix5 b k j H W) = Y (ix5 b c j H W) := by
  refine congrArg Y (funext fun a => Fin.ext ?_)
  match a with
  | 0 => exact Nat.zero_add _
  | 1 => exact hc
  | 2 => exact Nat.zero_add _
  | 3 => exact Nat.zero_add _
  | 4 => exact Nat.zero_add _

/-- The centre's value along the slots. -/
theorem cent_at {N : ℕ} (c : (⟨4, ![2, 1, 64, 2048]⟩ : Shape).Idx → EReal) (h3 : (⟨4, ![2, 1, 64, 2048]⟩ : Shape).BroadcastsInDim ⟨4, ![2, N, 64, 2048]⟩ ![0,1,2,3])
    (b : Fin 2) (H : Fin 64) (W : Fin 2048) (s : Fin N) :
    broadcastInDim ⟨4, ![2, N, 64, 2048]⟩ ![0,1,2,3] h3 c (ix4 b s H W) = c (ix4 b 0 H W) := by
  pointwise

/-- Some channels of an image. -/
theorem first_at (X : Img) {K c : ℕ} (hc : ∀ k : Fin K, c + k.val < 5) (h : (⟨4, ![2, 5, 64, 2048]⟩ : Shape).Slices ![0,c,0,0] ⟨4, ![2, K, 64, 2048]⟩)
    (b : Fin 2) (H : Fin 64) (W : Fin 2048) (k : Fin K) : extractStridedSlice ⟨4, ![2, K, 64, 2048]⟩ ![0,c,0,0] X h (ix4 b k H W) = X (ix4 b ⟨c + k.val, hc k⟩ H W) := by
  refine congrArg X (funext fun a => Fin.ext ?_)
  match a with
  | 0 => exact Nat.zero_add _
  | 1 => rfl
  | 2 => exact Nat.zero_add _
  | 3 => exact Nat.zero_add _

/-- An image's channels along the picked slots. -/
theorem spread_at (c : (⟨4, ![2, 3, 64, 2048]⟩ : Shape).Idx → EReal) (h1 : (⟨4, ![2, 3, 64, 2048]⟩ : Shape).BroadcastsInDim ⟨5, ![2, 3, 1, 64, 2048]⟩ ![0,1,3,4])
    (h3 : (⟨5, ![2, 3, 1, 64, 2048]⟩ : Shape).BroadcastsInDim ⟨5, ![2, 3, 9, 64, 2048]⟩ ![0,1,2,3,4])
    (b : Fin 2) (k : Fin 3) (j : Fin 9) (H : Fin 64) (W : Fin 2048) :
    broadcastInDim ⟨5, ![2, 3, 9, 64, 2048]⟩ ![0,1,2,3,4] h3 (broadcastInDim ⟨5, ![2, 3, 1, 64, 2048]⟩ ![0,1,3,4] h1 c) (ix5 b k j H W) = c (ix4 b k H W) := by
  pointwise

/-- The picks with a unit axis in the channels' place. -/
theorem late_at {α : Type} (x : (⟨4, ![2, 9, 64, 2048]⟩ : Shape).Idx → α) (h : (⟨4, ![2, 9, 64, 2048]⟩ : Shape).BroadcastsInDim ⟨5, ![2, 1, 9, 64, 2048]⟩ ![0, 2, 3, 4])
    (b : Fin 2) (u : Fin 1) (j : Fin 9) (H : Fin 64) (W : Fin 2048) :
    broadcastInDim ⟨5, ![2, 1, 9, 64, 2048]⟩ ![0, 2, 3, 4] h x (ix5 b u j H W) = x (ix4 b j H W) := by
  pointwise

/-- The unit axis moved to the end. -/
theorem regroup_at {α : Type} (x : (⟨5, ![2, 1, 9, 64, 2048]⟩ : Shape).Idx → α) (h : (⟨5, ![2, 1, 9, 64, 2048]⟩ : Shape).ShapeCasts ⟨5, ![2, 9, 64, 2048, 1]⟩)
    (b : Fin 2) (u : Fin 1) (j : Fin 9) (H : Fin 64) (W : Fin 2048) :
    shapeCast ⟨5, ![2, 9, 64, 2048, 1]⟩ x h (ix5 b j H W u) = x (ix5 b 0 j H W) := by
  pointwise

theorem neg_one : Ideal.ofBits .f32 0xBF800000#32 = -1 :=
  IdealRules.sign_bit.ideal_negOnePat .f32

theorem subf_at {s : Shape} (A B : FVec Ideal s .f32) (i : s.Idx) : subf A B i = (A i - B i : EReal) := rfl
theorem mulf_at {s : Shape} (A B : FVec Ideal s .f32) (i : s.Idx) : mulf A B i = (A i * B i : EReal) := rfl
theorem addf_at {s : Shape} (A B : FVec Ideal s .f32) (i : s.Idx) : addf A B i = (A i + B i : EReal) := rfl
theorem negf_at {s : Shape} (A : FVec Ideal s .f32) (i : s.Idx) : Host.negf A i = (-(A i : EReal) : EReal) := rfl
theorem sqrt_at {s : Shape} (A : FVec Ideal s .f32) (i : s.Idx) : Host.sqrt A i = (Ideal.sqrt (A i) : EReal) := rfl
theorem atan2_at {s : Shape} (A B : FVec Ideal s .f32) (i : s.Idx) : Host.atan2 A B i = (Ideal.atan2 (A i) (B i) : EReal) := rfl

/-- Five arrays of one channel each, stacked: channel `c` is the `c`-th of them. -/
theorem stack_at (f : Fin 5 → (⟨5, ![2, 1, 9, 64, 2048]⟩ : Shape).Idx → EReal)
    (h : Shape.Concatenates ((List.ofFn fun _ : Fin 5 => (⟨5, ![2, 1, 9, 64, 2048]⟩ : Shape))) ⟨5, ![2, 5, 9, 64, 2048]⟩ 1)
    (b : Fin 2) (c : Fin 5) (j : Fin 9) (H : Fin 64) (W : Fin 2048) :
    concatenate ⟨5, ![2, 5, 9, 64, 2048]⟩ 1
      (List.ofFn fun c : Fin 5 => (⟨⟨5, ![2, 1, 9, 64, 2048]⟩, f c⟩ : (s : Shape) × (s.Idx → EReal))) (by rw [List.map_ofFn]; exact h) (ix5 b c j H W) =
      f c (ix5 b 0 j H W) := by
  refine concatenate_ofFn_unit_apply (t := ⟨5, ![2, 5, 9, 64, 2048]⟩) (s₁ := ⟨5, ![2, 1, 9, 64, 2048]⟩) 1 _ _ rfl rfl
    (ix5 b c j H W) c rfl (ix5 b 0 j H W) ?_
  intro a ha
  match a with
  | 0 => rfl
  | 1 => exact absurd rfl ha
  | 2 => rfl
  | 3 => rfl
  | 4 => rfl

/-- The slot axis' own number at an index. -/
theorem iota_at (i : (⟨4, ![2, 25, 64, 2048]⟩ : Shape).Idx) : iotaInDim ⟨4, ![2, 25, 64, 2048]⟩ 32 1 i = BitVec.ofNat 32 (i 1).val := rfl

/-- The distance with the centre's own replaced by `-1`. -/
theorem lowered_at (D : FVec Ideal ⟨4, ![2, 25, 64, 2048]⟩ .f32) (h : (⟨0, ![]⟩ : Shape).BroadcastsInDim ⟨4, ![2, 25, 64, 2048]⟩ ![])
    (b : Fin 2) (s : Fin 25) (H : Fin 64) (W : Fin 2048) :
    select (cmpi .eq (iotaInDim ⟨4, ![2, 25, 64, 2048]⟩ 32 1) (broadcastInDim ⟨4, ![2, 25, 64, 2048]⟩ ![] h (constantI ⟨0, ![]⟩ 32 12#32)))
      (broadcastInDim ⟨4, ![2, 25, 64, 2048]⟩ ![] h (id (constant (F := Ideal) ⟨0, ![]⟩ .f32 0xBF800000#32))) D (ix4 b s H W) =
      (if s = 12 then -1 else D (ix4 b s H W) : EReal) := by
  show Scalar.select (IntOp.cmpi .eq (BitVec.ofNat 32 s.val) 12#32) (Ideal.ofBits .f32 0xBF800000#32) (D (ix4 b s H W)) = _
  rw [neg_one]
  have e : ∀ s : Fin 25, IntOp.cmpi .eq (BitVec.ofNat 32 s.val) 12#32 = if s = 12 then 1#1 else 0#1 := by decide
  rw [e]
  by_cases hs : s = 12
  · rw [if_pos hs, if_pos hs]; rfl
  · rw [if_neg hs, if_neg hs]; rfl

end Cert.KernelIdeal.Knn
-- ==== Proof.RefDist.lean ====
/-
  The reference's distances and its choice of neighbours read at an index.
-/
module

public import proofs.«01_k».proof.Proof.RefWin
public import proofs.«01_k».proof.Proof.Picks
public import proofs.«01_k».proof.Proof.RefOps

@[expose] public section

noncomputable section

namespace Cert.ReferenceIdeal.Knn

open Idealize.ShloMosaic Idealize.SL.Sem
open Cert.ReferenceIdeal.Gen Cert.ReferenceIdeal.Value
open Cert.KernelIdeal.Knn (Img Wgt pix around5 around7 here nbr5 nbr7 pix_in last_at second_at topk_at wrap25 wrap49 clamp25 clamp49 sorted5 sorted7 Finite0 chan9_at chan25_at chan49_at cent_at first_at spread_at late_at regroup_at subf_at mulf_at addf_at negf_at sqrt_at lowered_at)

variable (V : Valuation τ sig (Elt Ideal))

variable (b : Fin 2) (H : Fin 64) (W : Fin 2048)

/-- The differences of channel 0 from the centre. -/
theorem v168_at (s : Fin 25) :
    (res_main_v168 V : S2x25x64x2048.Idx → EReal) (ix4 b s H W) = around5 (argX V) b H.val W.val 0 s - here (argX V) b H.val W.val 0 := by
  unfold res_main_v168 res_main_v164
  refine (subf_at _ _ _).trans (congrArg₂ (fun d e : EReal => d - e) ?_ ?_)
  · exact (chan25_at (c := 0) (by decide) _ _ _ b H W s).trans (v56_at V b H W 0 s)
  · refine (cent_at _ _ b H W s).trans ((first_at (K := 1) (c := 0) _ (by decide) _ b H W 0).trans ?_)
    rw [here, pix_in]
    rfl

theorem v174_at (s : Fin 49) :
    (res_main_v174 V : S2x49x64x2048.Idx → EReal) (ix4 b s H W) = around7 (argP V) b H.val W.val 0 s - here (argX V) b H.val W.val 0 := by
  unfold res_main_v174 res_main_v164
  refine (subf_at _ _ _).trans (congrArg₂ (fun d e : EReal => d - e) ?_ ?_)
  · exact (chan49_at (c := 0) (by decide) _ _ _ b H W s).trans (v163_at V b H W 0 s)
  · refine (cent_at _ _ b H W s).trans ((first_at (K := 1) (c := 0) _ (by decide) _ b H W 0).trans ?_)
    rw [here, pix_in]
    rfl

/-- The negated distances, the slots' axis last. -/
theorem v187_at (s : Fin 49) : (res_main_v187 V : S2x64x2048x49.Idx → EReal) (ix4 b H W s)
    = -Ideal.sqrt ((around7 (argP V) b H.val W.val 0 s - here (argX V) b H.val W.val 0) * (around7 (argP V) b H.val W.val 0 s - here (argX V) b H.val W.val 0)) := by
  unfold res_main_v187
  refine (negf_at _ _).trans (congrArg (fun e : EReal => -e) ((last_at _ _ b H W s).trans ((sqrt_at _ _).trans (congrArg Ideal.sqrt ?_))))
  exact (mulf_at _ _ _).trans (congrArg (fun e : EReal => e * e) (v174_at V b H W s))

theorem v182_at (s : Fin 25) : (res_main_v182 V : S2x64x2048x25.Idx → EReal) (ix4 b H W s)
    = -(if s = 12 then -1 else Ideal.sqrt ((around5 (argX V) b H.val W.val 0 s - here (argX V) b H.val W.val 0) * (around5 (argX V) b H.val W.val 0 s - here (argX V) b H.val W.val 0))) := by
  unfold res_main_v182
  refine (negf_at _ _).trans (congrArg (fun e : EReal => -e) ((last_at _ _ b H W s).trans ((lowered_at _ _ b s H W).trans
    (congrArg (fun e : EReal => if s = 12 then -1 else e) ((sqrt_at _ _).trans (congrArg Ideal.sqrt ?_))))))
  exact (mulf_at _ _ _).trans (congrArg (fun e : EReal => e * e) (v168_at V b H W s))

/-- The picks of the 5×5 windows. -/
theorem v184_at (hx : Finite0 (argX V)) (u : Fin 1) (j : Fin 9) : (res_main_v184 V : IVec S2x1x9x64x2048 32) (ix5 b u j H W)
    = BitVec.ofNat 32 (nbr5 (around5 (argX V) b H.val W.val 0) (here (argX V) b H.val W.val 0) j).val := by
  unfold res_main_v184
  rw [late_at, second_at, topk_at (by decide) _ _ b H W _ (v182_at V b H W) j]
  rw [sorted5 hx b H.val W.val (fun s => rfl) (fun a c => rfl) j]

theorem v189_at (hx : Finite0 (argX V)) (hp : Finite0 (argP V)) (u : Fin 1) (j : Fin 9) : (res_main_v189 V : IVec S2x1x9x64x2048 32) (ix5 b u j H W)
    = BitVec.ofNat 32 (nbr7 (around7 (argP V) b H.val W.val 0) (here (argX V) b H.val W.val 0) j).val := by
  unfold res_main_v189
  rw [late_at, second_at, topk_at (by decide) _ _ b H W _ (v187_at V b H W) j]
  rw [sorted7 hx hp b H.val W.val (fun s => rfl) (fun a c => rfl) j]

/-- The gather's operand index: the result's own, with the position read off the start indices on the slots' axis. -/
theorem gather25_at {x : S2x5x25x64x2048.Idx → EReal} {idx : IVec S2x9x64x2048x1 32} (ch : Fin 5) (j : Fin 9) (k : Fin 25)
    (hk : idx (ix5 b j H W 0) = BitVec.ofNat 32 k.val) :
    Host.gather gather_S2x5x25x64x2048_S2x9x64x2048x1_S2x5x9x64x2048_1_2_034_023_2_4_15111 x idx (ix5 b ch j H W) = x (ix5 b ch k H W) := by
  refine congrArg x (funext fun a => Fin.ext ?_)
  match a with
  | 0 => exact (Nat.add_zero _).trans (Nat.zero_add _)
  | 1 => exact Nat.zero_add _
  | 2 =>
    refine Eq.trans ?_ (clamp25 k)
    rw [← hk]
    refine congrArg (fun i => min (idx i).toInt.toNat (25 - 1)) (funext fun e => Fin.ext ?_)
    match e with
    | 0 => rfl
    | 1 => rfl
    | 2 => rfl
    | 3 => rfl
    | 4 => rfl
  | 3 => exact (Nat.add_zero _).trans (Nat.zero_add _)
  | 4 => exact (Nat.add_zero _).trans (Nat.zero_add _)

theorem gather49_at {x : S2x5x49x64x2048.Idx → EReal} {idx : IVec S2x9x64x2048x1 32} (ch : Fin 5) (j : Fin 9) (k : Fin 49)
    (hk : idx (ix5 b j H W 0) = BitVec.ofNat 32 k.val) :
    Host.gather gather_S2x5x49x64x2048_S2x9x64x2048x1_S2x5x9x64x2048_1_2_034_023_2_4_15111 x idx (ix5 b ch j H W) = x (ix5 b ch k H W) := by
  refine congrArg x (funext fun a => Fin.ext ?_)
  match a with
  | 0 => exact (Nat.add_zero _).trans (Nat.zero_add _)
  | 1 => exact Nat.zero_add _
  | 2 =>
    refine Eq.trans ?_ (clamp49 k)
    rw [← hk]
    refine congrArg (fun i => min (idx i).toInt.toNat (49 - 1)) (funext fun e => Fin.ext ?_)
    match e with
    | 0 => rfl
    | 1 => rfl
    | 2 => rfl
    | 3 => rfl
    | 4 => rfl
  | 3 => exact (Nat.add_zero _).trans (Nat.zero_add _)
  | 4 => exact (Nat.add_zero _).trans (Nat.zero_add _)

end Cert.ReferenceIdeal.Knn
-- ==== Proof.RefOut.lean ====
/-
  The reference's neighbours, their polar coordinates and its two results, read at an index.
-/
module

public import proofs.«01_k».proof.Proof.RefDist

@[expose] public section

noncomputable section

namespace Cert.ReferenceIdeal.Knn

open Idealize.ShloMosaic Idealize.SL.Sem
open Cert.ReferenceIdeal.Gen Cert.ReferenceIdeal.Value
open Cert.KernelIdeal.Knn (Img Wgt pix around5 around7 here nbr5 nbr7 pix_in last_at second_at topk_at wrap25 wrap49 clamp25 clamp49 sorted5 sorted7 Finite0 chan9_at chan25_at chan49_at cent_at first_at inner_at spread_at late_at regroup_at subf_at mulf_at addf_at negf_at sqrt_at atan2_at stack_at near5 near7 rad ang ang2 polarAt wt mix res1 res2 casts_wgt)

variable (V : Valuation τ sig (Elt Ideal))

/-- The products summed over channels and neighbours. -/
theorem dot_at (g : FVec Ideal S2x5x9x64x2048 .f32) (w : FVec Ideal S32x5x9 .f32) (b : Fin 2) (o : Fin 32) (H : Fin 64) (W : Fin 2048) :
    Host.dotGeneral dot_S2x5x9x64x2048_S32x5x9_S2x64x2048x32_12_12_034_0_n_n none g w (ix4 b H W o) =
      (∑ c : Fin 5, ∑ j : Fin 9, (g (ix5 b c j H W) : EReal) * (w (ix3 o c j) : EReal) : EReal) := by
  pointwise

/-- The weighted sums with their channels moved to be the second axis, and the ramp. -/
def wsum (g : FVec Ideal S2x5x9x64x2048 .f32) (w : FVec Ideal S5x32x3x3 .f32) : FVec Ideal S2x32x64x2048 .f32 :=
  maximumf (transpose S2x32x64x2048 [0, 3, 1, 2] (Host.dotGeneral dot_S2x5x9x64x2048_S32x5x9_S2x64x2048x32_12_12_034_0_n_n none g
    (shapeCast S32x5x9 w shapeCasts_S5x32x3x3_S32x5x9)) transposes_S2x64x2048x32_S2x32x64x2048_0_3_1_2)
    (broadcastInDim S2x32x64x2048 ![] bcast_S_S2x32x64x2048 (constant (F := Ideal) S_ .f32 0x00000000#32))

theorem wsum_at (g : FVec Ideal S2x5x9x64x2048 .f32) (w : FVec Ideal S5x32x3x3 .f32) (b : Fin 2) (o : Fin 32) (H : Fin 64) (W : Fin 2048) (G : Fin 5 → Fin 9 → EReal)
    (hg : ∀ c j, (g (ix5 b c j H W) : EReal) = G c j) : (wsum g w (ix4 b o H W) : EReal) = mix w o G := by
  show max (transpose S2x32x64x2048 [0, 3, 1, 2] (Host.dotGeneral dot_S2x5x9x64x2048_S32x5x9_S2x64x2048x32_12_12_034_0_n_n none g
      (shapeCast S32x5x9 w shapeCasts_S5x32x3x3_S32x5x9)) transposes_S2x64x2048x32_S2x32x64x2048_0_3_1_2 (ix4 b o H W) : EReal)
      (Ideal.ofBits .f32 0x00000000#32) = _
  rw [second_at, dot_at, Ideal.ofBits_zero_f32]
  unfold mix
  refine congrArg (fun e : EReal => max e 0) (Finset.sum_congr rfl fun c _ => Finset.sum_congr rfl fun j _ => ?_)
  rw [hg, mul_comm]
  rfl

variable (b : Fin 2) (H : Fin 64) (W : Fin 2048)

/-- The picks as the gather's start indices. -/
theorem start25_at (p : IVec S2x1x9x64x2048 32) (j : Fin 9) (k : Fin 25) (hk : p (ix5 b 0 j H W) = BitVec.ofNat 32 k.val) :
    shapeCast S2x9x64x2048x1 (select (cmpi .slt p (broadcastInDim S2x1x9x64x2048 ![] bcast_S_S2x1x9x64x2048 (constantI S_ 32 0#32)))
      (addi p (broadcastInDim S2x1x9x64x2048 ![] bcast_S_S2x1x9x64x2048 (constantI S_ 32 25#32))) p) shapeCasts_S2x1x9x64x2048_S2x9x64x2048x1 (ix5 b j H W 0) =
      BitVec.ofNat 32 k.val := by
  rw [regroup_at]
  show Scalar.select (IntOp.cmpi .slt (p (ix5 b 0 j H W)) 0#32) (p (ix5 b 0 j H W) + 25#32) (p (ix5 b 0 j H W)) = _
  rw [hk, wrap25]

theorem start49_at (p : IVec S2x1x9x64x2048 32) (j : Fin 9) (k : Fin 49) (hk : p (ix5 b 0 j H W) = BitVec.ofNat 32 k.val) :
    shapeCast S2x9x64x2048x1 (select (cmpi .slt p (broadcastInDim S2x1x9x64x2048 ![] bcast_S_S2x1x9x64x2048 (constantI S_ 32 0#32)))
      (addi p (broadcastInDim S2x1x9x64x2048 ![] bcast_S_S2x1x9x64x2048 (constantI S_ 32 49#32))) p) shapeCasts_S2x1x9x64x2048_S2x9x64x2048x1 (ix5 b j H W 0) =
      BitVec.ofNat 32 k.val := by
  rw [regroup_at]
  show Scalar.select (IntOp.cmpi .slt (p (ix5 b 0 j H W)) 0#32) (p (ix5 b 0 j H W) + 49#32) (p (ix5 b 0 j H W)) = _
  rw [hk, wrap49]

/-- The second window's neighbours. -/
theorem v190_at (hx : Finite0 (argX V)) (hp : Finite0 (argP V)) (ch : Fin 5) (j : Fin 9) :
    (res_main_v190 V : S2x5x9x64x2048.Idx → EReal) (ix5 b ch j H W) = near7 (argX V) (argP V) b H.val W.val ch j := by
  unfold res_main_v190
  exact (gather49_at b H W ch j _ (start49_at b H W _ j _ (v189_at V b H W hx hp 0 j))).trans (v163_at V b H W ch _)

/-- Channels 1 to 3 of the neighbours from the pixel's own. -/
theorem v195_at (hx : Finite0 (argX V)) (hp : Finite0 (argP V)) (k : Fin 3) (c : Fin 5) (hc : 1 + k.val = c.val) (j : Fin 9) :
    (res_main_v195 V : S2x3x9x64x2048.Idx → EReal) (ix5 b k j H W) = near7 (argX V) (argP V) b H.val W.val c j - here (argX V) b H.val W.val c := by
  unfold res_main_v195
  refine (subf_at _ _ _).trans (congrArg₂ (fun d e : EReal => d - e) (Eq.trans ?_ (v190_at V b H W hx hp c j)) ?_)
  · exact inner_at _ _ b k c hc j H W
  · refine (spread_at _ _ _ b k j H W).trans ((first_at (K := 3) (c := 1) _ (by decide) _ b H W k).trans ?_)
    rw [here, pix_in]
    exact congrArg (argX V) (by rw [show (⟨1 + k.val, _⟩ : Fin 5) = c from Fin.ext hc])

theorem v197_at (hx : Finite0 (argX V)) (hp : Finite0 (argP V)) (j : Fin 9) :
    (res_main_v197 V : S2x9x64x2048.Idx → EReal) (ix4 b j H W) = near7 (argX V) (argP V) b H.val W.val 1 j - here (argX V) b H.val W.val 1 := by
  unfold res_main_v197
  exact (chan9_at (c := 0) (by decide) _ _ _ b H W j).trans (v195_at V b H W hx hp 0 1 rfl j)

theorem v199_at (hx : Finite0 (argX V)) (hp : Finite0 (argP V)) (j : Fin 9) :
    (res_main_v199 V : S2x9x64x2048.Idx → EReal) (ix4 b j H W) = near7 (argX V) (argP V) b H.val W.val 2 j - here (argX V) b H.val W.val 2 := by
  unfold res_main_v199
  exact (chan9_at (c := 1) (by decide) _ _ _ b H W j).trans (v195_at V b H W hx hp 1 2 rfl j)

theorem v201_at (hx : Finite0 (argX V)) (hp : Finite0 (argP V)) (j : Fin 9) :
    (res_main_v201 V : S2x9x64x2048.Idx → EReal) (ix4 b j H W) = near7 (argX V) (argP V) b H.val W.val 3 j - here (argX V) b H.val W.val 3 := by
  unfold res_main_v201
  exact (chan9_at (c := 2) (by decide) _ _ _ b H W j).trans (v195_at V b H W hx hp 2 3 rfl j)

/-- The differences of channel `c`. -/
def dlt (j : Fin 9) (c : Fin 5) : EReal := near7 (argX V) (argP V) b H.val W.val c j - here (argX V) b H.val W.val c

theorem v204_at (hx : Finite0 (argX V)) (hp : Finite0 (argP V)) (j : Fin 9) :
    (res_main_v204 V : S2x9x64x2048.Idx → EReal) (ix4 b j H W) = dlt V b H W j 1 * dlt V b H W j 1 + dlt V b H W j 2 * dlt V b H W j 2 := by
  unfold res_main_v204
  exact (addf_at _ _ _).trans (congrArg₂ (fun d e : EReal => d + e)
    ((mulf_at _ _ _).trans (congrArg (fun e : EReal => e * e) (v197_at V b H W hx hp j)))
    ((mulf_at _ _ _).trans (congrArg (fun e : EReal => e * e) (v199_at V b H W hx hp j))))

theorem v207_at (hx : Finite0 (argX V)) (hp : Finite0 (argP V)) (j : Fin 9) :
    (res_main_v207 V : S2x9x64x2048.Idx → EReal) (ix4 b j H W) = rad (dlt V b H W j 1) (dlt V b H W j 2) (dlt V b H W j 3) := by
  unfold res_main_v207
  exact (sqrt_at _ _).trans (congrArg Ideal.sqrt ((addf_at _ _ _).trans (congrArg₂ (fun d e : EReal => d + e) (v204_at V b H W hx hp j)
    ((mulf_at _ _ _).trans (congrArg (fun e : EReal => e * e) (v201_at V b H W hx hp j))))))

theorem v210_at (hx : Finite0 (argX V)) (hp : Finite0 (argP V)) (j : Fin 9) :
    (res_main_v210 V : S2x9x64x2048.Idx → EReal) (ix4 b j H W) = ang (dlt V b H W j 1) (dlt V b H W j 2) (dlt V b H W j 3) := by
  unfold res_main_v210
  exact (atan2_at _ _ _).trans (congrArg₂ Ideal.atan2 ((sqrt_at _ _).trans (congrArg Ideal.sqrt (v204_at V b H W hx hp j)))
    ((mulf_at _ _ _).trans (congrArg (fun e : EReal => e * e) (v201_at V b H W hx hp j))))

/-- The five channels that the second result is mixed from. -/
def chans : Fin 5 → S2x9x64x2048.Idx → EReal
  | 0 => shapeCast S2x9x64x2048 (extractStridedSlice S2x1x9x64x2048 ![0, 0, 0, 0, 0] (res_main_v190 V) slices_S2x5x9x64x2048_S2x1x9x64x2048_0_0_0_0_0) shapeCasts_S2x1x9x64x2048_S2x9x64x2048
  | 1 => res_main_v207 V
  | 2 => res_main_v210 V
  | 3 => Host.atan2 (mulf (res_main_v210 V : FVec Ideal S2x9x64x2048 .f32) (res_main_v210 V)) (mulf (res_main_v207 V : FVec Ideal S2x9x64x2048 .f32) (res_main_v207 V))
  | 4 => shapeCast S2x9x64x2048 (extractStridedSlice S2x1x9x64x2048 ![0, 4, 0, 0, 0] (res_main_v190 V) slices_S2x5x9x64x2048_S2x1x9x64x2048_0_4_0_0_0) shapeCasts_S2x1x9x64x2048_S2x9x64x2048

theorem chans_at (hx : Finite0 (argX V)) (hp : Finite0 (argP V)) (c : Fin 5) (j : Fin 9) :
    chans V c (ix4 b j H W) = polarAt (argX V) (argP V) b H.val W.val c j := by
  match c with
  | 0 => exact (chan9_at (c := 0) (by decide) _ _ _ b H W j).trans (v190_at V b H W hx hp 0 j)
  | 1 => exact v207_at V b H W hx hp j
  | 2 => exact v210_at V b H W hx hp j
  | 3 =>
    exact (atan2_at _ _ _).trans (congrArg₂ Ideal.atan2 ((mulf_at _ _ _).trans (congrArg (fun e : EReal => e * e) (v210_at V b H W hx hp j)))
      ((mulf_at _ _ _).trans (congrArg (fun e : EReal => e * e) (v207_at V b H W hx hp j))))
  | 4 => exact (chan9_at (c := 4) (by decide) _ _ _ b H W j).trans (v190_at V b H W hx hp 4 j)

/-- The weights. -/
abbrev argW : Wgt := V (Proc.devRef .tc main_arg2)
abbrev argW2 : Wgt := V (Proc.devRef .tc main_arg3)

/-- What the first result is mixed from. -/
def picks5 : FVec Ideal S2x5x9x64x2048 .f32 :=
  Host.gather gather_S2x5x25x64x2048_S2x9x64x2048x1_S2x5x9x64x2048_1_2_034_023_2_4_15111 (res_main_v56 V) (shapeCast _ (select (cmpi .slt (res_main_v184 V)
    (broadcastInDim S2x1x9x64x2048 ![] bcast_S_S2x1x9x64x2048 (constantI S_ 32 0#32))) (addi (res_main_v184 V)
    (broadcastInDim S2x1x9x64x2048 ![] bcast_S_S2x1x9x64x2048 (constantI S_ 32 25#32))) (res_main_v184 V)) shapeCasts_S2x1x9x64x2048_S2x9x64x2048x1)

/-- Five channels stacked. -/
def stackOf (f : Fin 5 → S2x9x64x2048.Idx → EReal) : FVec Ideal S2x5x9x64x2048 .f32 :=
  concatenate S2x5x9x64x2048 1 (List.ofFn fun c : Fin 5 => (⟨S2x1x9x64x2048, broadcastInDim S2x1x9x64x2048 ![0, 2, 3, 4]
    bcast_S2x9x64x2048_S2x1x9x64x2048_0_2_3_4 (f c)⟩ : (s : Shape) × (s.Idx → EReal)))
    concatenates_S2x1x9x64x2048_S2x1x9x64x2048_S2x1x9x64x2048_S2x1x9x64x2048_S2x1x9x64x2048_S2x5x9x64x2048_d1

theorem stackOf_at (f : Fin 5 → S2x9x64x2048.Idx → EReal) (c : Fin 5) (j : Fin 9) : (stackOf f (ix5 b c j H W) : EReal) = f c (ix4 b j H W) := by
  unfold stackOf
  refine (stack_at (fun c : Fin 5 => broadcastInDim S2x1x9x64x2048 ![0, 2, 3, 4] bcast_S2x9x64x2048_S2x1x9x64x2048_0_2_3_4 (f c))
    concatenates_S2x1x9x64x2048_S2x1x9x64x2048_S2x1x9x64x2048_S2x1x9x64x2048_S2x1x9x64x2048_S2x5x9x64x2048_d1 b c j H W).trans ?_
  exact late_at _ _ b 0 j H W

/-- What the second result is mixed from. -/
def stacked : FVec Ideal S2x5x9x64x2048 .f32 := stackOf (chans V)

/-- The first result. -/
theorem first_eq (hx : Finite0 (argX V)) :
    wsum (picks5 V) (V (Proc.devRef .tc main_arg2)) = fun i => (res1 (argX V) (argW V) (i 0) (i 1) (i 2).val (i 3).val : EReal) := by
  refine funext fun i => ?_
  rw [eq_ix4 i]
  exact wsum_at _ (V (Proc.devRef .tc main_arg2)) (i 0) (i 1) (i 2) (i 3) (near5 (argX V) (i 0) (i 2).val (i 3).val) fun c j =>
    (gather25_at (i 0) (i 2) (i 3) c j _ (start25_at (i 0) (i 2) (i 3) _ j _ (v184_at V (i 0) (i 2) (i 3) hx 0 j))).trans (v56_at V (i 0) (i 2) (i 3) c _)

/-- The second result. -/
theorem second_eq (hx : Finite0 (argX V)) (hp : Finite0 (argP V)) :
    wsum (stacked V) (V (Proc.devRef .tc main_arg3)) = fun i => (res2 (argX V) (argP V) (argW2 V) (i 0) (i 1) (i 2).val (i 3).val : EReal) := by
  refine funext fun i => ?_
  rw [eq_ix4 i]
  exact wsum_at _ (V (Proc.devRef .tc main_arg3)) (i 0) (i 1) (i 2) (i 3) (polarAt (argX V) (argP V) (i 0) (i 2).val (i 3).val) fun c j =>
    (stackOf_at (i 0) (i 2) (i 3) (chans V) c j).trans (chans_at V (i 0) (i 2) (i 3) hx hp c j)

/-- The reference's run, its results named. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v227) = wsum (picks5 (StableHlo.launchContents m c)) (StableHlo.launchContents m c (Proc.devRef .tc main_arg2))
      ∧ r.2.mem ((c.tc : Thread nD τ).loc main_v231) = wsum (stacked (StableHlo.launchContents m c)) (StableHlo.launchContents m c (Proc.devRef .tc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.ReferenceIdeal.Knn
-- ==== Proof.Answer.lean ====
/-
  Both programs run and leave the problem's two arrays: the kernel by its blocks, the reference by its own operations.
-/
module

public import proofs.«01_k».proof.Proof.Blocks
public import proofs.«01_k».proof.Proof.RefOut

@[expose] public section

noncomputable section

namespace Cert.KernelIdeal.Knn

open Idealize.ShloMosaic Idealize.ShloMosaic.TcCoe Idealize.SL.Sem
open Cert.KernelIdeal.Gen

/-- The kernel leaves the problem's arrays, and its arguments as they were. -/
theorem run_answer (m : (ℓ : Loc nD τ sig) → Buf (Elt Ideal) ℓ) (ρ : Dev nD → PrngReg) (hx : ∀ c, Finite0 (img m c)) (hp : ∀ c, Finite0 (img2 m c)) :
    θ_run defs (onTc (τ := τ) (main (F := Ideal))) ⟨m, fun _ => 0, ρ⟩ fun r => ∀ c : Dev nD,
      r.2.mem ((c.tc : Thread nD τ).loc main_v32_0) = whole1 (img m c) (wgt m c)
      ∧ r.2.mem ((c.tc : Thread nD τ).loc main_v32_1) = whole2 (img m c) (img2 m c) (wgt2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).1 26).trans (array1 m c (hx c)),
      ((h c).1 27).trans (array2 m c (hx c) (hp c)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩) (run_main m ρ)

end Cert.KernelIdeal.Knn

namespace Cert.ReferenceIdeal.Knn

open Idealize.ShloMosaic Idealize.ShloMosaic.TcCoe Idealize.SL.Sem
open Cert.KernelIdeal.Knn (Finite0 Img Wgt whole1 whole2)
open Cert.ReferenceIdeal.Gen

/-- The reference leaves the problem's arrays, and its arguments as they were. -/
theorem run_answer (m : (ℓ : Loc nD τ sig) → Buf (Elt Ideal) ℓ) (ρ : Dev nD → PrngReg)
    (hx : ∀ c : Dev nD, Finite0 (m ((c.tc : Thread nD τ).loc main_arg0))) (hp : ∀ c : Dev nD, Finite0 (m ((c.tc : Thread nD τ).loc main_arg1))) :
    θ_run defs (onTc (τ := τ) (main (F := Ideal))) ⟨m, fun _ => 0, ρ⟩ fun r => ∀ c : Dev nD,
      r.2.mem ((c.tc : Thread nD τ).loc main_v227) = whole1 (m ((c.tc : Thread nD τ).loc main_arg0)) (m ((c.tc : Thread nD τ).loc main_arg2))
      ∧ r.2.mem ((c.tc : Thread nD τ).loc main_v231) = whole2 (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).1.trans (first_eq (StableHlo.launchContents m c) (hx c)),
      (h c).2.1.trans (second_eq (StableHlo.launchContents m c) (hx c) (hp c)), (h c).2.2⟩) (run_named m ρ)

/-- The reference runs, leaves its arguments and has no counter to leave. -/
theorem frame_main (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  (θ_run defs _ _).mono (fun r h => ⟨fun c => (h c).2.2, sem_eq_zero_of_no_sems (by decide) r.2⟩) (run_named m ρ)

end Cert.ReferenceIdeal.Knn
-- ==== Proof.Precondition.lean ====
/-
  What the precondition says: no value of channel 0 of either image is infinite.
-/
module

public import Idealize.ShloMosaic.Lib.Pointwise
public import proofs.«01_k».proof.Pre_finite
public import proofs.«01_k».proof.Proof.Gen.Pre_finite
public import proofs.«01_k».proof.Proof.Spec
public import proofs.«01_k».proof.Proof.Pixel

@[expose] public section

noncomputable section

namespace Cert.KernelIdeal.Knn

open Idealize.ShloMosaic

/-- Two truth values whose conjunction holds both hold. -/
theorem both_of_and {p q : Prop} [Decidable p] [Decidable q] (h : IntOp.andi (BitVec.ofBool (decide p)) (BitVec.ofBool (decide q)) = 1#1) : p ∧ q := by
  by_cases hp : p <;> by_cases hq : q
  · exact ⟨hp, hq⟩
  all_goals
    simp only [hp, hq, decide_true, decide_false] at h
    exact absurd h (by decide)

/-- The precondition at one pixel. -/
theorem pre_at (x p : FVec Ideal Cert.Pre_finite.S2x5x64x2048 .f32) (w w2 : FVec Ideal Cert.Pre_finite.S5x32x3x3 .f32) (b : Fin 2) (H : Fin 64) (W : Fin 2048) :
    Cert.Pre_finite.fn (F := Ideal) x p w w2 (ix3 b H W)
      = IntOp.andi (BitVec.ofBool (decide ((max (x (ix4 b 0 H W)) (-(x (ix4 b 0 H W))) : EReal) < Ideal.ofBits .f32 0x7F800000#32)))
          (BitVec.ofBool (decide ((max (p (ix4 b 0 H W)) (-(p (ix4 b 0 H W))) : EReal) < Ideal.ofBits .f32 0x7F800000#32))) := by
  unfold Cert.Pre_finite.fn
  pointwise
  rfl

/-- The precondition read as finiteness of both images' channel 0. -/
theorem finite_of (x p : FVec Ideal Cert.Pre_finite.S2x5x64x2048 .f32) (w w2 : FVec Ideal Cert.Pre_finite.S5x32x3x3 .f32)
    (h : ∀ i, Cert.Pre_finite.fn (F := Ideal) x p w w2 i = 1#1) : Finite0 x ∧ Finite0 p := by
  have key := fun b H W => both_of_and ((pre_at x p w w2 b H W).symm.trans (h (ix3 b H W)))
  rw [inf_eq] at key
  exact ⟨fun b H W => (key b H W).1, fun b H W => (key b H W).2⟩

end Cert.KernelIdeal.Knn
-- ==== Proof.lean ====
/- The claims of this certificate. The launch's run in `Proof/Launch.lean` is proved once, over any floats: at bit patterns
   it is the kernel's frame, at extended reals the idealization's. `Proof/Answer.lean` says what both programs leave. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite
public import proofs.«01_k».proof.Proof.Launch
public import proofs.«01_k».proof.Proof.Answer
public import proofs.«01_k».proof.Proof.Precondition
public import Idealize.ShloMosaic.Adequacy
public import Idealize.ShloMosaic.Init
public import Idealize.ShloMosaic.Lib.Tactic

@[expose] public section

noncomputable section

namespace Cert.Proof

open Idealize.ShloMosaic Idealize.SL.Sem

/-- The claim about the kernel at bit patterns, read of the idealization's text: the two programs have one text. -/
def frameBits : Prop :=
  ∀ (m : (ℓ : Loc KernelIdeal.nD KernelIdeal.τ KernelIdeal.sig) → Buf (Elt Bits) ℓ) (ρ : Dev KernelIdeal.nD → PrngReg), True →
    θ_run (KernelIdeal.defs (F := Bits)) (onTc (τ := KernelIdeal.τ) (KernelIdeal.main (F := Bits))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3))
      ∧ r.2.sem = fun _ => 0)

theorem quiescent_eq : Cert.quiescent_Kernel = frameBits := by sl_kernel_rfl

/-- The kernel at bit patterns runs and leaves its arguments. -/
theorem frame_kernel : Cert.quiescent_Kernel :=
  quiescent_eq.mpr fun m ρ _ => (θ_run KernelIdeal.defs _ _).mono (fun _ h => h) (KernelIdeal.Knn.frame_main (F := Bits) m ρ)

/-- The idealization runs and leaves its arguments. -/
theorem frame_ideal : Cert.quiescent_KernelIdeal := fun m ρ _ => Cert.KernelIdeal.Knn.frame_main (F := Ideal) m ρ

/-- The reference runs and leaves its arguments. -/
theorem frame_reference : Cert.quiescent_ReferenceIdeal := fun m ρ _ => Cert.ReferenceIdeal.Knn.frame_main m ρ

/-- The idealization and the reference leave equal arrays when channel 0 of both images is finite. -/
theorem equal_answers : Cert.algebraic_KernelIdeal_ReferenceIdeal_pre_finite := by
  intro m ρ m' ρ' hpre hagree
  have hfin := fun c => KernelIdeal.Knn.finite_of _ _ _ _ fun i => congrFun (hpre c) i
  refine ⟨fun c => KernelIdeal.Knn.whole1 (KernelIdeal.Knn.img m c) (KernelIdeal.Knn.wgt m c),
    fun c => KernelIdeal.Knn.whole2 (KernelIdeal.Knn.img m c) (KernelIdeal.Knn.img2 m c) (KernelIdeal.Knn.wgt2 m c),
    KernelIdeal.Knn.run_answer m ρ (fun c => (hfin c).1) (fun c => (hfin c).2), ?_⟩
  refine (θ_run ReferenceIdeal.defs _ _).mono (fun _ h c => ?_)
    (ReferenceIdeal.Knn.run_answer m' ρ' (fun c => by rw [(hagree c).1]; exact (hfin c).1) (fun c => by rw [(hagree c).2.1]; exact (hfin c).2))
  have hc := h c
  refine ⟨hc.1.trans ?_, hc.2.1.trans ?_, hc.2.2⟩
  · rw [(hagree c).1, (hagree c).2.2.1]
  · rw [(hagree c).1, (hagree c).2.1, (hagree c).2.2.2]

theorem claim : Cert.Claim :=
  ⟨Cert.Kernel.Gen.facts, Cert.KernelIdeal.Gen.facts, Cert.ReferenceIdeal.Gen.facts, Cert.Pre_finite.Gen.facts,
    frame_kernel, frame_ideal, fun m ρ _ => frame_ideal m ρ trivial, frame_reference, fun m ρ _ => frame_reference m ρ trivial,
    trivial, equal_answers⟩

end Cert.Proof

end
